-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x32x128 : Shape := ⟨4, ![1, 2048, 32, 128]⟩
abbrev S512x1024 : Shape := ⟨2, ![512, 1024]⟩
abbrev S2x2048x128 : Shape := ⟨3, ![2, 2048, 128]⟩
abbrev S4 : Shape := ⟨1, ![4]⟩
abbrev S32x1024 : Shape := ⟨2, ![32, 1024]⟩
abbrev S16x32x1024 : Shape := ⟨3, ![16, 32, 1024]⟩
abbrev S16 : Shape := ⟨1, ![16]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x32x1024 : Shape := ⟨3, ![1, 32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S512x1024, .f32⟩
  | .local _ .vmem, ⟨4, _⟩ => ⟨S2x2048x128, .f32⟩
  | .local _ .vmem, ⟨5, _⟩ => ⟨S2x2048x128, .f32⟩
  | .local _ .vmem, ⟨6, _⟩ => ⟨S512x1024, .bf16⟩
  | .local _ .vmem, ⟨7, _⟩ => ⟨S32x1024, .bf16⟩
  | .local _ .vmem, ⟨8, _⟩ => ⟨S16x32x1024, .bf16⟩
  | .local _ .vmem, ⟨9, _⟩ => ⟨S16x32x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_61 : BitVec 32) : Fin 4 → Nat :=
  let c0_i32_62 : BitVec 32 := 0#32
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_60 : BitVec 32 := 2#32
  let v64 : BitVec 32 := Scalar.muli v2 c2_i32_60
  let v65 : BitVec 32 := Scalar.addi v64 c0_i32_61
  let c0_i32_68 : BitVec 32 := 0#32
  ![0, 0, v65.toNat, 0]
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_221 : BitVec 32 := 1#32
  let v276 : BitVec 32 := Scalar.addi v2 c1_i32_221
  let c16_i32_222 : BitVec 32 := 16#32
  let v277 : BitVec 32 := Scalar.remsi v276 c16_i32_222
  let c32_i32 : BitVec 32 := 32#32
  let v278 : BitVec 32 := Scalar.muli v277 c32_i32
  v278
def k0_off2 (d0 : Dev nD) (c1_i32_221 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v276 : BitVec 32 := Scalar.addi v2 c1_i32_221
  let c16_i32_222 : BitVec 32 := 16#32
  let v277 : BitVec 32 := Scalar.remsi v276 c16_i32_222
  ![v277.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_225 : BitVec 32 := 0#32
  let c0_i32_226 : BitVec 32 := 0#32
  ![v2.toNat, 0, 0]
def k0_off5 (d0 : Dev nD) (c1_i32_221 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v276 : BitVec 32 := Scalar.addi v2 c1_i32_221
  let c16_i32_222 : BitVec 32 := 16#32
  let v277 : BitVec 32 := Scalar.remsi v276 c16_i32_222
  let c32_i32 : BitVec 32 := 32#32
  let v278 : BitVec 32 := Scalar.muli v277 c32_i32
  let v279 : BitVec 32 := v278
  let c0_i32_227 : BitVec 32 := 0#32
  ![v279.toNat, 0]
def k0_dev16 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_221 : BitVec 32 := 1#32
  let v276 : BitVec 32 := Scalar.addi v2 c1_i32_221
  let c16_i32_222 : BitVec 32 := 16#32
  let v277 : BitVec 32 := Scalar.remsi v276 c16_i32_222
  let c1_i32_223 : BitVec 32 := 1#32
  let v280 : BitVec 32 := Scalar.muli v277 c1_i32_223
  let v281 : BitVec 32 := Scalar.addi c0_i32_224 v280
  v281.toNat
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_228 : BitVec 32 := 2#32
  let v289 : BitVec 32 := Scalar.addi v2 c2_i32_228
  let c16_i32_229 : BitVec 32 := 16#32
  let v290 : BitVec 32 := Scalar.remsi v289 c16_i32_229
  let c32_i32_230 : BitVec 32 := 32#32
  let v291 : BitVec 32 := Scalar.muli v290 c32_i32_230
  v291
def k0_dev17 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_228 : BitVec 32 := 2#32
  let v289 : BitVec 32 := Scalar.addi v2 c2_i32_228
  let c16_i32_229 : BitVec 32 := 16#32
  let v290 : BitVec 32 := Scalar.remsi v289 c16_i32_229
  let c1_i32_231 : BitVec 32 := 1#32
  let v293 : BitVec 32 := Scalar.muli v290 c1_i32_231
  let v294 : BitVec 32 := Scalar.addi c0_i32_232 v293
  v294.toNat
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_236 : BitVec 32 := 3#32
  let v302 : BitVec 32 := Scalar.addi v2 c3_i32_236
  let c16_i32_237 : BitVec 32 := 16#32
  let v303 : BitVec 32 := Scalar.remsi v302 c16_i32_237
  let c32_i32_238 : BitVec 32 := 32#32
  let v304 : BitVec 32 := Scalar.muli v303 c32_i32_238
  v304
def k0_dev18 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_236 : BitVec 32 := 3#32
  let v302 : BitVec 32 := Scalar.addi v2 c3_i32_236
  let c16_i32_237 : BitVec 32 := 16#32
  let v303 : BitVec 32 := Scalar.remsi v302 c16_i32_237
  let c1_i32_239 : BitVec 32 := 1#32
  let v306 : BitVec 32 := Scalar.muli v303 c1_i32_239
  let v307 : BitVec 32 := Scalar.addi c0_i32_240 v306
  v307.toNat
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_244 : BitVec 32 := 4#32
  let v315 : BitVec 32 := Scalar.addi v2 c4_i32_244
  let c16_i32_245 : BitVec 32 := 16#32
  let v316 : BitVec 32 := Scalar.remsi v315 c16_i32_245
  let c32_i32_246 : BitVec 32 := 32#32
  let v317 : BitVec 32 := Scalar.muli v316 c32_i32_246
  v317
def k0_dev19 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_244 : BitVec 32 := 4#32
  let v315 : BitVec 32 := Scalar.addi v2 c4_i32_244
  let c16_i32_245 : BitVec 32 := 16#32
  let v316 : BitVec 32 := Scalar.remsi v315 c16_i32_245
  let c1_i32_247 : BitVec 32 := 1#32
  let v319 : BitVec 32 := Scalar.muli v316 c1_i32_247
  let v320 : BitVec 32 := Scalar.addi c0_i32_248 v319
  v320.toNat
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_252 : BitVec 32 := 5#32
  let v328 : BitVec 32 := Scalar.addi v2 c5_i32_252
  let c16_i32_253 : BitVec 32 := 16#32
  let v329 : BitVec 32 := Scalar.remsi v328 c16_i32_253
  let c32_i32_254 : BitVec 32 := 32#32
  let v330 : BitVec 32 := Scalar.muli v329 c32_i32_254
  v330
def k0_dev20 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_252 : BitVec 32 := 5#32
  let v328 : BitVec 32 := Scalar.addi v2 c5_i32_252
  let c16_i32_253 : BitVec 32 := 16#32
  let v329 : BitVec 32 := Scalar.remsi v328 c16_i32_253
  let c1_i32_255 : BitVec 32 := 1#32
  let v332 : BitVec 32 := Scalar.muli v329 c1_i32_255
  let v333 : BitVec 32 := Scalar.addi c0_i32_256 v332
  v333.toNat
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_260 : BitVec 32 := 6#32
  let v341 : BitVec 32 := Scalar.addi v2 c6_i32_260
  let c16_i32_261 : BitVec 32 := 16#32
  let v342 : BitVec 32 := Scalar.remsi v341 c16_i32_261
  let c32_i32_262 : BitVec 32 := 32#32
  let v343 : BitVec 32 := Scalar.muli v342 c32_i32_262
  v343
def k0_dev21 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_260 : BitVec 32 := 6#32
  let v341 : BitVec 32 := Scalar.addi v2 c6_i32_260
  let c16_i32_261 : BitVec 32 := 16#32
  let v342 : BitVec 32 := Scalar.remsi v341 c16_i32_261
  let c1_i32_263 : BitVec 32 := 1#32
  let v345 : BitVec 32 := Scalar.muli v342 c1_i32_263
  let v346 : BitVec 32 := Scalar.addi c0_i32_264 v345
  v346.toNat
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_268 : BitVec 32 := 7#32
  let v354 : BitVec 32 := Scalar.addi v2 c7_i32_268
  let c16_i32_269 : BitVec 32 := 16#32
  let v355 : BitVec 32 := Scalar.remsi v354 c16_i32_269
  let c32_i32_270 : BitVec 32 := 32#32
  let v356 : BitVec 32 := Scalar.muli v355 c32_i32_270
  v356
def k0_dev22 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_268 : BitVec 32 := 7#32
  let v354 : BitVec 32 := Scalar.addi v2 c7_i32_268
  let c16_i32_269 : BitVec 32 := 16#32
  let v355 : BitVec 32 := Scalar.remsi v354 c16_i32_269
  let c1_i32_271 : BitVec 32 := 1#32
  let v358 : BitVec 32 := Scalar.muli v355 c1_i32_271
  let v359 : BitVec 32 := Scalar.addi c0_i32_272 v358
  v359.toNat
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_276 : BitVec 32 := 8#32
  let v367 : BitVec 32 := Scalar.addi v2 c8_i32_276
  let c16_i32_277 : BitVec 32 := 16#32
  let v368 : BitVec 32 := Scalar.remsi v367 c16_i32_277
  let c32_i32_278 : BitVec 32 := 32#32
  let v369 : BitVec 32 := Scalar.muli v368 c32_i32_278
  v369
def k0_dev23 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_276 : BitVec 32 := 8#32
  let v367 : BitVec 32 := Scalar.addi v2 c8_i32_276
  let c16_i32_277 : BitVec 32 := 16#32
  let v368 : BitVec 32 := Scalar.remsi v367 c16_i32_277
  let c1_i32_279 : BitVec 32 := 1#32
  let v371 : BitVec 32 := Scalar.muli v368 c1_i32_279
  let v372 : BitVec 32 := Scalar.addi c0_i32_280 v371
  v372.toNat
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_284 : BitVec 32 := 9#32
  let v380 : BitVec 32 := Scalar.addi v2 c9_i32_284
  let c16_i32_285 : BitVec 32 := 16#32
  let v381 : BitVec 32 := Scalar.remsi v380 c16_i32_285
  let c32_i32_286 : BitVec 32 := 32#32
  let v382 : BitVec 32 := Scalar.muli v381 c32_i32_286
  v382
def k0_dev24 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_284 : BitVec 32 := 9#32
  let v380 : BitVec 32 := Scalar.addi v2 c9_i32_284
  let c16_i32_285 : BitVec 32 := 16#32
  let v381 : BitVec 32 := Scalar.remsi v380 c16_i32_285
  let c1_i32_287 : BitVec 32 := 1#32
  let v384 : BitVec 32 := Scalar.muli v381 c1_i32_287
  let v385 : BitVec 32 := Scalar.addi c0_i32_288 v384
  v385.toNat
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_292 : BitVec 32 := 10#32
  let v393 : BitVec 32 := Scalar.addi v2 c10_i32_292
  let c16_i32_293 : BitVec 32 := 16#32
  let v394 : BitVec 32 := Scalar.remsi v393 c16_i32_293
  let c32_i32_294 : BitVec 32 := 32#32
  let v395 : BitVec 32 := Scalar.muli v394 c32_i32_294
  v395
def k0_dev25 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_292 : BitVec 32 := 10#32
  let v393 : BitVec 32 := Scalar.addi v2 c10_i32_292
  let c16_i32_293 : BitVec 32 := 16#32
  let v394 : BitVec 32 := Scalar.remsi v393 c16_i32_293
  let c1_i32_295 : BitVec 32 := 1#32
  let v397 : BitVec 32 := Scalar.muli v394 c1_i32_295
  let v398 : BitVec 32 := Scalar.addi c0_i32_296 v397
  v398.toNat
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_300 : BitVec 32 := 11#32
  let v406 : BitVec 32 := Scalar.addi v2 c11_i32_300
  let c16_i32_301 : BitVec 32 := 16#32
  let v407 : BitVec 32 := Scalar.remsi v406 c16_i32_301
  let c32_i32_302 : BitVec 32 := 32#32
  let v408 : BitVec 32 := Scalar.muli v407 c32_i32_302
  v408
def k0_dev26 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_300 : BitVec 32 := 11#32
  let v406 : BitVec 32 := Scalar.addi v2 c11_i32_300
  let c16_i32_301 : BitVec 32 := 16#32
  let v407 : BitVec 32 := Scalar.remsi v406 c16_i32_301
  let c1_i32_303 : BitVec 32 := 1#32
  let v410 : BitVec 32 := Scalar.muli v407 c1_i32_303
  let v411 : BitVec 32 := Scalar.addi c0_i32_304 v410
  v411.toNat
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_308 : BitVec 32 := 12#32
  let v419 : BitVec 32 := Scalar.addi v2 c12_i32_308
  let c16_i32_309 : BitVec 32 := 16#32
  let v420 : BitVec 32 := Scalar.remsi v419 c16_i32_309
  let c32_i32_310 : BitVec 32 := 32#32
  let v421 : BitVec 32 := Scalar.muli v420 c32_i32_310
  v421
def k0_dev27 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_308 : BitVec 32 := 12#32
  let v419 : BitVec 32 := Scalar.addi v2 c12_i32_308
  let c16_i32_309 : BitVec 32 := 16#32
  let v420 : BitVec 32 := Scalar.remsi v419 c16_i32_309
  let c1_i32_311 : BitVec 32 := 1#32
  let v423 : BitVec 32 := Scalar.muli v420 c1_i32_311
  let v424 : BitVec 32 := Scalar.addi c0_i32_312 v423
  v424.toNat
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_316 : BitVec 32 := 13#32
  let v432 : BitVec 32 := Scalar.addi v2 c13_i32_316
  let c16_i32_317 : BitVec 32 := 16#32
  let v433 : BitVec 32 := Scalar.remsi v432 c16_i32_317
  let c32_i32_318 : BitVec 32 := 32#32
  let v434 : BitVec 32 := Scalar.muli v433 c32_i32_318
  v434
def k0_dev28 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_316 : BitVec 32 := 13#32
  let v432 : BitVec 32 := Scalar.addi v2 c13_i32_316
  let c16_i32_317 : BitVec 32 := 16#32
  let v433 : BitVec 32 := Scalar.remsi v432 c16_i32_317
  let c1_i32_319 : BitVec 32 := 1#32
  let v436 : BitVec 32 := Scalar.muli v433 c1_i32_319
  let v437 : BitVec 32 := Scalar.addi c0_i32_320 v436
  v437.toNat
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_324 : BitVec 32 := 14#32
  let v445 : BitVec 32 := Scalar.addi v2 c14_i32_324
  let c16_i32_325 : BitVec 32 := 16#32
  let v446 : BitVec 32 := Scalar.remsi v445 c16_i32_325
  let c32_i32_326 : BitVec 32 := 32#32
  let v447 : BitVec 32 := Scalar.muli v446 c32_i32_326
  v447
def k0_dev29 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_324 : BitVec 32 := 14#32
  let v445 : BitVec 32 := Scalar.addi v2 c14_i32_324
  let c16_i32_325 : BitVec 32 := 16#32
  let v446 : BitVec 32 := Scalar.remsi v445 c16_i32_325
  let c1_i32_327 : BitVec 32 := 1#32
  let v449 : BitVec 32 := Scalar.muli v446 c1_i32_327
  let v450 : BitVec 32 := Scalar.addi c0_i32_328 v449
  v450.toNat
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_332 : BitVec 32 := 15#32
  let v458 : BitVec 32 := Scalar.addi v2 c15_i32_332
  let c16_i32_333 : BitVec 32 := 16#32
  let v459 : BitVec 32 := Scalar.remsi v458 c16_i32_333
  let c32_i32_334 : BitVec 32 := 32#32
  let v460 : BitVec 32 := Scalar.muli v459 c32_i32_334
  v460
def k0_dev30 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_332 : BitVec 32 := 15#32
  let v458 : BitVec 32 := Scalar.addi v2 c15_i32_332
  let c16_i32_333 : BitVec 32 := 16#32
  let v459 : BitVec 32 := Scalar.remsi v458 c16_i32_333
  let c1_i32_335 : BitVec 32 := 1#32
  let v462 : BitVec 32 := Scalar.muli v459 c1_i32_335
  let v463 : BitVec 32 := Scalar.addi c0_i32_336 v462
  v463.toNat
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_340 : BitVec 32 := 32#32
  let v471 : BitVec 32 := Scalar.muli v2 c32_i32_340
  v471
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_340 : BitVec 32 := 32#32
  let v471 : BitVec 32 := Scalar.muli v2 c32_i32_340
  let v472 : BitVec 32 := v471
  let v473 : Index := Scalar.indexCast v472
  let c0_341 : Index := 0#32
  ![v473.toNat, 0]
def k0_off7 (d0 : Dev nD) (c1_i32_342 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v476 : BitVec 32 := Scalar.subi v2 c1_i32_342
  let c16_i32_343 : BitVec 32 := 16#32
  let v477 : BitVec 32 := Scalar.addi v476 c16_i32_343
  let c16_i32_344 : BitVec 32 := 16#32
  let v478 : BitVec 32 := Scalar.remsi v477 c16_i32_344
  ![v478.toNat]
def k0_off8 (d0 : Dev nD) (c1_i32_342 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v476 : BitVec 32 := Scalar.subi v2 c1_i32_342
  let c16_i32_343 : BitVec 32 := 16#32
  let v477 : BitVec 32 := Scalar.addi v476 c16_i32_343
  let c16_i32_344 : BitVec 32 := 16#32
  let v478 : BitVec 32 := Scalar.remsi v477 c16_i32_344
  let c0_i32_348 : BitVec 32 := 0#32
  let c0_i32_349 : BitVec 32 := 0#32
  ![v478.toNat, 0, 0]
def k0_off9 (d0 : Dev nD) (c1_i32_342 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v476 : BitVec 32 := Scalar.subi v2 c1_i32_342
  let c16_i32_343 : BitVec 32 := 16#32
  let v477 : BitVec 32 := Scalar.addi v476 c16_i32_343
  let c16_i32_344 : BitVec 32 := 16#32
  let v478 : BitVec 32 := Scalar.remsi v477 c16_i32_344
  let v486 : Index := Scalar.indexCast v478
  let c0_352 : Index := 0#32
  let c0_353 : Index := 0#32
  ![v486.toNat, 0, 0]
def k0_dev31 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_525 : BitVec 32 := 1#32
  let v707 : BitVec 32 := Scalar.addi v2 c1_i32_525
  let c16_i32_526 : BitVec 32 := 16#32
  let v708 : BitVec 32 := Scalar.remsi v707 c16_i32_526
  let c1_i32_527 : BitVec 32 := 1#32
  let v709 : BitVec 32 := Scalar.muli v708 c1_i32_527
  let v710 : BitVec 32 := Scalar.addi c0_i32_528 v709
  v710.toNat
def k0_dev32 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_531 : BitVec 32 := 2#32
  let v717 : BitVec 32 := Scalar.addi v2 c2_i32_531
  let c16_i32_532 : BitVec 32 := 16#32
  let v718 : BitVec 32 := Scalar.remsi v717 c16_i32_532
  let c1_i32_533 : BitVec 32 := 1#32
  let v719 : BitVec 32 := Scalar.muli v718 c1_i32_533
  let v720 : BitVec 32 := Scalar.addi c0_i32_534 v719
  v720.toNat
def k0_dev33 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_537 : BitVec 32 := 3#32
  let v727 : BitVec 32 := Scalar.addi v2 c3_i32_537
  let c16_i32_538 : BitVec 32 := 16#32
  let v728 : BitVec 32 := Scalar.remsi v727 c16_i32_538
  let c1_i32_539 : BitVec 32 := 1#32
  let v729 : BitVec 32 := Scalar.muli v728 c1_i32_539
  let v730 : BitVec 32 := Scalar.addi c0_i32_540 v729
  v730.toNat
def k0_dev34 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_543 : BitVec 32 := 4#32
  let v737 : BitVec 32 := Scalar.addi v2 c4_i32_543
  let c16_i32_544 : BitVec 32 := 16#32
  let v738 : BitVec 32 := Scalar.remsi v737 c16_i32_544
  let c1_i32_545 : BitVec 32 := 1#32
  let v739 : BitVec 32 := Scalar.muli v738 c1_i32_545
  let v740 : BitVec 32 := Scalar.addi c0_i32_546 v739
  v740.toNat
def k0_dev35 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_549 : BitVec 32 := 5#32
  let v747 : BitVec 32 := Scalar.addi v2 c5_i32_549
  let c16_i32_550 : BitVec 32 := 16#32
  let v748 : BitVec 32 := Scalar.remsi v747 c16_i32_550
  let c1_i32_551 : BitVec 32 := 1#32
  let v749 : BitVec 32 := Scalar.muli v748 c1_i32_551
  let v750 : BitVec 32 := Scalar.addi c0_i32_552 v749
  v750.toNat
def k0_dev36 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_555 : BitVec 32 := 6#32
  let v757 : BitVec 32 := Scalar.addi v2 c6_i32_555
  let c16_i32_556 : BitVec 32 := 16#32
  let v758 : BitVec 32 := Scalar.remsi v757 c16_i32_556
  let c1_i32_557 : BitVec 32 := 1#32
  let v759 : BitVec 32 := Scalar.muli v758 c1_i32_557
  let v760 : BitVec 32 := Scalar.addi c0_i32_558 v759
  v760.toNat
def k0_dev37 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_561 : BitVec 32 := 7#32
  let v767 : BitVec 32 := Scalar.addi v2 c7_i32_561
  let c16_i32_562 : BitVec 32 := 16#32
  let v768 : BitVec 32 := Scalar.remsi v767 c16_i32_562
  let c1_i32_563 : BitVec 32 := 1#32
  let v769 : BitVec 32 := Scalar.muli v768 c1_i32_563
  let v770 : BitVec 32 := Scalar.addi c0_i32_564 v769
  v770.toNat
def k0_dev38 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_567 : BitVec 32 := 8#32
  let v777 : BitVec 32 := Scalar.addi v2 c8_i32_567
  let c16_i32_568 : BitVec 32 := 16#32
  let v778 : BitVec 32 := Scalar.remsi v777 c16_i32_568
  let c1_i32_569 : BitVec 32 := 1#32
  let v779 : BitVec 32 := Scalar.muli v778 c1_i32_569
  let v780 : BitVec 32 := Scalar.addi c0_i32_570 v779
  v780.toNat
def k0_dev39 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_573 : BitVec 32 := 9#32
  let v787 : BitVec 32 := Scalar.addi v2 c9_i32_573
  let c16_i32_574 : BitVec 32 := 16#32
  let v788 : BitVec 32 := Scalar.remsi v787 c16_i32_574
  let c1_i32_575 : BitVec 32 := 1#32
  let v789 : BitVec 32 := Scalar.muli v788 c1_i32_575
  let v790 : BitVec 32 := Scalar.addi c0_i32_576 v789
  v790.toNat
def k0_dev40 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_579 : BitVec 32 := 10#32
  let v797 : BitVec 32 := Scalar.addi v2 c10_i32_579
  let c16_i32_580 : BitVec 32 := 16#32
  let v798 : BitVec 32 := Scalar.remsi v797 c16_i32_580
  let c1_i32_581 : BitVec 32 := 1#32
  let v799 : BitVec 32 := Scalar.muli v798 c1_i32_581
  let v800 : BitVec 32 := Scalar.addi c0_i32_582 v799
  v800.toNat
def k0_dev41 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_585 : BitVec 32 := 11#32
  let v807 : BitVec 32 := Scalar.addi v2 c11_i32_585
  let c16_i32_586 : BitVec 32 := 16#32
  let v808 : BitVec 32 := Scalar.remsi v807 c16_i32_586
  let c1_i32_587 : BitVec 32 := 1#32
  let v809 : BitVec 32 := Scalar.muli v808 c1_i32_587
  let v810 : BitVec 32 := Scalar.addi c0_i32_588 v809
  v810.toNat
def k0_dev42 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_591 : BitVec 32 := 12#32
  let v817 : BitVec 32 := Scalar.addi v2 c12_i32_591
  let c16_i32_592 : BitVec 32 := 16#32
  let v818 : BitVec 32 := Scalar.remsi v817 c16_i32_592
  let c1_i32_593 : BitVec 32 := 1#32
  let v819 : BitVec 32 := Scalar.muli v818 c1_i32_593
  let v820 : BitVec 32 := Scalar.addi c0_i32_594 v819
  v820.toNat
def k0_dev43 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_597 : BitVec 32 := 13#32
  let v827 : BitVec 32 := Scalar.addi v2 c13_i32_597
  let c16_i32_598 : BitVec 32 := 16#32
  let v828 : BitVec 32 := Scalar.remsi v827 c16_i32_598
  let c1_i32_599 : BitVec 32 := 1#32
  let v829 : BitVec 32 := Scalar.muli v828 c1_i32_599
  let v830 : BitVec 32 := Scalar.addi c0_i32_600 v829
  v830.toNat
def k0_dev44 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_603 : BitVec 32 := 14#32
  let v837 : BitVec 32 := Scalar.addi v2 c14_i32_603
  let c16_i32_604 : BitVec 32 := 16#32
  let v838 : BitVec 32 := Scalar.remsi v837 c16_i32_604
  let c1_i32_605 : BitVec 32 := 1#32
  let v839 : BitVec 32 := Scalar.muli v838 c1_i32_605
  let v840 : BitVec 32 := Scalar.addi c0_i32_606 v839
  v840.toNat
def k0_dev45 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_609 : BitVec 32 := 15#32
  let v847 : BitVec 32 := Scalar.addi v2 c15_i32_609
  let c16_i32_610 : BitVec 32 := 16#32
  let v848 : BitVec 32 := Scalar.remsi v847 c16_i32_610
  let c1_i32_611 : BitVec 32 := 1#32
  let v849 : BitVec 32 := Scalar.muli v848 c1_i32_611
  let v850 : BitVec 32 := Scalar.addi c0_i32_612 v849
  v850.toNat
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_615 : BitVec 32 := 1#32
  let v857 : BitVec 32 := Scalar.subi v2 c1_i32_615
  let c16_i32_616 : BitVec 32 := 16#32
  let v858 : BitVec 32 := Scalar.addi v857 c16_i32_616
  let c16_i32_617 : BitVec 32 := 16#32
  let v859 : BitVec 32 := Scalar.remsi v858 c16_i32_617
  let c32_i32_625 : BitVec 32 := 32#32
  let v870 : BitVec 32 := Scalar.muli v859 c32_i32_625
  v870
def k0_off10 (d0 : Dev nD) (c1_i32_615 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v857 : BitVec 32 := Scalar.subi v2 c1_i32_615
  let c16_i32_616 : BitVec 32 := 16#32
  let v858 : BitVec 32 := Scalar.addi v857 c16_i32_616
  let c16_i32_617 : BitVec 32 := 16#32
  let v859 : BitVec 32 := Scalar.remsi v858 c16_i32_617
  let c32_i32_625 : BitVec 32 := 32#32
  let v870 : BitVec 32 := Scalar.muli v859 c32_i32_625
  let v871 : BitVec 32 := v870
  let v872 : Index := Scalar.indexCast v871
  let c0_626 : Index := 0#32
  ![v872.toNat, 0]
def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_627 : BitVec 32 := 2#32
  let v874 : BitVec 32 := Scalar.subi v2 c2_i32_627
  let c16_i32_628 : BitVec 32 := 16#32
  let v875 : BitVec 32 := Scalar.addi v874 c16_i32_628
  let c16_i32_629 : BitVec 32 := 16#32
  let v876 : BitVec 32 := Scalar.remsi v875 c16_i32_629
  let c32_i32_637 : BitVec 32 := 32#32
  let v887 : BitVec 32 := Scalar.muli v876 c32_i32_637
  v887
def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_639 : BitVec 32 := 3#32
  let v891 : BitVec 32 := Scalar.subi v2 c3_i32_639
  let c16_i32_640 : BitVec 32 := 16#32
  let v892 : BitVec 32 := Scalar.addi v891 c16_i32_640
  let c16_i32_641 : BitVec 32 := 16#32
  let v893 : BitVec 32 := Scalar.remsi v892 c16_i32_641
  let c32_i32_649 : BitVec 32 := 32#32
  let v904 : BitVec 32 := Scalar.muli v893 c32_i32_649
  v904
def k0_mult20 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_651 : BitVec 32 := 4#32
  let v908 : BitVec 32 := Scalar.subi v2 c4_i32_651
  let c16_i32_652 : BitVec 32 := 16#32
  let v909 : BitVec 32 := Scalar.addi v908 c16_i32_652
  let c16_i32_653 : BitVec 32 := 16#32
  let v910 : BitVec 32 := Scalar.remsi v909 c16_i32_653
  let c32_i32_661 : BitVec 32 := 32#32
  let v921 : BitVec 32 := Scalar.muli v910 c32_i32_661
  v921
def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_663 : BitVec 32 := 5#32
  let v925 : BitVec 32 := Scalar.subi v2 c5_i32_663
  let c16_i32_664 : BitVec 32 := 16#32
  let v926 : BitVec 32 := Scalar.addi v925 c16_i32_664
  let c16_i32_665 : BitVec 32 := 16#32
  let v927 : BitVec 32 := Scalar.remsi v926 c16_i32_665
  let c32_i32_673 : BitVec 32 := 32#32
  let v938 : BitVec 32 := Scalar.muli v927 c32_i32_673
  v938
def k0_mult22 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_675 : BitVec 32 := 6#32
  let v942 : BitVec 32 := Scalar.subi v2 c6_i32_675
  let c16_i32_676 : BitVec 32 := 16#32
  let v943 : BitVec 32 := Scalar.addi v942 c16_i32_676
  let c16_i32_677 : BitVec 32 := 16#32
  let v944 : BitVec 32 := Scalar.remsi v943 c16_i32_677
  let c32_i32_685 : BitVec 32 := 32#32
  let v955 : BitVec 32 := Scalar.muli v944 c32_i32_685
  v955
def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_687 : BitVec 32 := 7#32
  let v959 : BitVec 32 := Scalar.subi v2 c7_i32_687
  let c16_i32_688 : BitVec 32 := 16#32
  let v960 : BitVec 32 := Scalar.addi v959 c16_i32_688
  let c16_i32_689 : BitVec 32 := 16#32
  let v961 : BitVec 32 := Scalar.remsi v960 c16_i32_689
  let c32_i32_697 : BitVec 32 := 32#32
  let v972 : BitVec 32 := Scalar.muli v961 c32_i32_697
  v972
def k0_mult24 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_699 : BitVec 32 := 8#32
  let v976 : BitVec 32 := Scalar.subi v2 c8_i32_699
  let c16_i32_700 : BitVec 32 := 16#32
  let v977 : BitVec 32 := Scalar.addi v976 c16_i32_700
  let c16_i32_701 : BitVec 32 := 16#32
  let v978 : BitVec 32 := Scalar.remsi v977 c16_i32_701
  let c32_i32_709 : BitVec 32 := 32#32
  let v989 : BitVec 32 := Scalar.muli v978 c32_i32_709
  v989
def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_711 : BitVec 32 := 9#32
  let v993 : BitVec 32 := Scalar.subi v2 c9_i32_711
  let c16_i32_712 : BitVec 32 := 16#32
  let v994 : BitVec 32 := Scalar.addi v993 c16_i32_712
  let c16_i32_713 : BitVec 32 := 16#32
  let v995 : BitVec 32 := Scalar.remsi v994 c16_i32_713
  let c32_i32_721 : BitVec 32 := 32#32
  let v1006 : BitVec 32 := Scalar.muli v995 c32_i32_721
  v1006
def k0_mult26 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_723 : BitVec 32 := 10#32
  let v1010 : BitVec 32 := Scalar.subi v2 c10_i32_723
  let c16_i32_724 : BitVec 32 := 16#32
  let v1011 : BitVec 32 := Scalar.addi v1010 c16_i32_724
  let c16_i32_725 : BitVec 32 := 16#32
  let v1012 : BitVec 32 := Scalar.remsi v1011 c16_i32_725
  let c32_i32_733 : BitVec 32 := 32#32
  let v1023 : BitVec 32 := Scalar.muli v1012 c32_i32_733
  v1023
def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_735 : BitVec 32 := 11#32
  let v1027 : BitVec 32 := Scalar.subi v2 c11_i32_735
  let c16_i32_736 : BitVec 32 := 16#32
  let v1028 : BitVec 32 := Scalar.addi v1027 c16_i32_736
  let c16_i32_737 : BitVec 32 := 16#32
  let v1029 : BitVec 32 := Scalar.remsi v1028 c16_i32_737
  let c32_i32_745 : BitVec 32 := 32#32
  let v1040 : BitVec 32 := Scalar.muli v1029 c32_i32_745
  v1040
def k0_mult28 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_747 : BitVec 32 := 12#32
  let v1044 : BitVec 32 := Scalar.subi v2 c12_i32_747
  let c16_i32_748 : BitVec 32 := 16#32
  let v1045 : BitVec 32 := Scalar.addi v1044 c16_i32_748
  let c16_i32_749 : BitVec 32 := 16#32
  let v1046 : BitVec 32 := Scalar.remsi v1045 c16_i32_749
  let c32_i32_757 : BitVec 32 := 32#32
  let v1057 : BitVec 32 := Scalar.muli v1046 c32_i32_757
  v1057
def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_759 : BitVec 32 := 13#32
  let v1061 : BitVec 32 := Scalar.subi v2 c13_i32_759
  let c16_i32_760 : BitVec 32 := 16#32
  let v1062 : BitVec 32 := Scalar.addi v1061 c16_i32_760
  let c16_i32_761 : BitVec 32 := 16#32
  let v1063 : BitVec 32 := Scalar.remsi v1062 c16_i32_761
  let c32_i32_769 : BitVec 32 := 32#32
  let v1074 : BitVec 32 := Scalar.muli v1063 c32_i32_769
  v1074
def k0_mult30 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_771 : BitVec 32 := 14#32
  let v1078 : BitVec 32 := Scalar.subi v2 c14_i32_771
  let c16_i32_772 : BitVec 32 := 16#32
  let v1079 : BitVec 32 := Scalar.addi v1078 c16_i32_772
  let c16_i32_773 : BitVec 32 := 16#32
  let v1080 : BitVec 32 := Scalar.remsi v1079 c16_i32_773
  let c32_i32_781 : BitVec 32 := 32#32
  let v1091 : BitVec 32 := Scalar.muli v1080 c32_i32_781
  v1091
def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_783 : BitVec 32 := 15#32
  let v1095 : BitVec 32 := Scalar.subi v2 c15_i32_783
  let c16_i32_784 : BitVec 32 := 16#32
  let v1096 : BitVec 32 := Scalar.addi v1095 c16_i32_784
  let c16_i32_785 : BitVec 32 := 16#32
  let v1097 : BitVec 32 := Scalar.remsi v1096 c16_i32_785
  let c32_i32_793 : BitVec 32 := 32#32
  let v1108 : BitVec 32 := Scalar.muli v1097 c32_i32_793
  v1108
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x512x1024 : Shape := ⟨3, ![1, 512, 1024]⟩
abbrev S1024x16384 : Shape := ⟨2, ![1024, 16384]⟩
abbrev S1x2048x32x128 : Shape := ⟨4, ![1, 2048, 32, 128]⟩
abbrev S16384x1024 : Shape := ⟨2, ![16384, 1024]⟩
abbrev S1x512x16384 : Shape := ⟨3, ![1, 512, 16384]⟩
abbrev S1x512x128x128 : Shape := ⟨4, ![1, 512, 128, 128]⟩
abbrev S1x2048x32x4x128 : Shape := ⟨5, ![1, 2048, 32, 4, 128]⟩
abbrev S1x2048x128x128 : Shape := ⟨4, ![1, 2048, 128, 128]⟩
abbrev S1x128x512x2048 : Shape := ⟨4, ![1, 128, 512, 2048]⟩
abbrev S_ : Shape := ⟨0, ![]⟩
abbrev S1x128x512 : Shape := ⟨3, ![1, 128, 512]⟩
abbrev S1x128x512x1 : Shape := ⟨4, ![1, 128, 512, 1]⟩
abbrev S1x128x128x512 : Shape := ⟨4, ![1, 128, 128, 512]⟩
abbrev S1x512x128x1 : Shape := ⟨4, ![1, 512, 128, 1]⟩
abbrev S512x1024 : Shape := ⟨2, ![512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x16384, .f32⟩
  | .hbm, ⟨2, _⟩ => ⟨S1x2048x32x128, .f32⟩
  | .hbm, ⟨3, _⟩ => ⟨S1x2048x32x128, .f32⟩
  | .hbm, ⟨4, _⟩ => ⟨S16384x1024, .f32⟩
  | .hbm, ⟨5, _⟩ => ⟨S1x512x16384, .f32⟩
  | .hbm, ⟨6, _⟩ => ⟨S1x512x128x128, .f32⟩
  | .hbm, ⟨7, _⟩ => ⟨S1x2048x32x4x128, .f32⟩
  | .hbm, ⟨8, _⟩ => ⟨S1x2048x128x128, .f32⟩
  | .hbm, ⟨9, _⟩ => ⟨S1x2048x32x4x128, .f32⟩
  | .hbm, ⟨10, _⟩ => ⟨S1x2048x128x128, .f32⟩
  | .hbm, ⟨11, _⟩ => ⟨S1x128x512x2048, .f32⟩
  | .hbm, ⟨12, _⟩ => ⟨S_, .f32⟩
  | .hbm, ⟨13, _⟩ => ⟨S1x128x512x2048, .f32⟩
  | .hbm, ⟨14, _⟩ => ⟨S1x128x512x2048, .f32⟩
  | .hbm, ⟨15, _⟩ => ⟨S_, .f32⟩
  | .hbm, ⟨16, _⟩ => ⟨S1x128x512, .f32⟩
  | .hbm, ⟨17, _⟩ => ⟨S1x128x512x1, .f32⟩
  | .hbm, ⟨18, _⟩ => ⟨S1x128x512x2048, .f32⟩
  | .hbm, ⟨19, _⟩ => ⟨S1x128x512x2048, .f32⟩
  | .hbm, ⟨20, _⟩ => ⟨S1x128x512x2048, .f32⟩
  | .hbm, ⟨21, _⟩ => ⟨S_, .f32⟩
  | .hbm, ⟨22, _⟩ => ⟨S1x128x512, .f32⟩
  | .hbm, ⟨23, _⟩ => ⟨S1x128x512x1, .f32⟩
  | .hbm, ⟨24, _⟩ => ⟨S1x128x128x512, .f32⟩
  | .hbm, ⟨25, _⟩ => ⟨S1x512x128x128, .f32⟩
  | .hbm, ⟨26, _⟩ => ⟨S1x512x128x1, .f32⟩
  | .hbm, ⟨27, _⟩ => ⟨S1x512x128x128, .f32⟩
  | .hbm, ⟨28, _⟩ => ⟨S1x512x128x128, .f32⟩
  | .hbm, ⟨29, _⟩ => ⟨S1x512x16384, .f32⟩
  | .hbm, ⟨30, _⟩ => ⟨S1x512x1024, .f32⟩
  | .hbm, ⟨31, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Cells.lean ====
/-
  The kernel's semaphores, buffers and contents, device by device.

  A device `c` has a barrier semaphore and 72 transfer semaphores: four of the pipeline's staging, four of the
  copies of its two key and two value heads, and four rows of sixteen — completion and arrival of the first
  exchange (each device sends every other one its rows of the partial product), completion and arrival of the second
  (each device sends every other one its finished rows). The entry `j` of a row belongs to the exchange with
  device `j`; a device's own entry is never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

/-- The pipeline library's part of the ghost state; -/
abbrev EP : Emb (UR sig nD τ) (MT nD τ sig Unit (Elt F) ℕ UU ℕ) := embL
/-- the exchange's. -/
abbrev ER : Emb UB (MT nD τ sig Unit (Elt F) ℕ UU ℕ) := embR

/-! ## The partners, in the order the kernel takes them -/

set_option backward.proofsInPublic true in
/-- The device `r + 1` places after `c`: the `r`-th one `c` signals and sends to. -/
def up (c : Dev nD) (r : Fin 15) : Dev nD := ⟨(c.val + r.val + 1) % 16, Nat.mod_lt _ (by decide)⟩

set_option backward.proofsInPublic true in
/-- The device `r + 1` places before `c`: the `r`-th one whose arrivals `c` waits for. -/
def dn (c : Dev nD) (r : Fin 15) : Dev nD := ⟨((c.val + 15) - r.val) % 16, Nat.mod_lt _ (by decide)⟩

set_option backward.proofsInPublic true in
/-- Which of `c`'s sends goes to `j`. -/
def place (c j : Dev nD) : ℕ := (j.val + 15 - c.val) % 16

/-- The device that is `r + 1` places up is another device. -/
theorem up_ne (c : Dev nD) (r : Fin 15) : up c r ≠ c := by revert c r; decide +kernel
/-- The device that is `r + 1` places down is another device. -/
theorem dn_ne (c : Dev nD) (r : Fin 15) : dn c r ≠ c := by revert c r; decide +kernel
/-- Different steps up reach different devices. -/
theorem up_injective (c : Dev nD) : Function.Injective (up c) := by revert c; decide +kernel
/-- Different steps down reach different devices. -/
theorem dn_injective (c : Dev nD) : Function.Injective (dn c) := by revert c; decide +kernel
/-- The device that step `r` up reaches is at place `r`. -/
theorem place_up (c : Dev nD) (r : Fin 15) : place c (up c r) = r.val := by revert c r; decide +kernel
/-- The fifteen steps up reach every other device. -/
theorem map_up (c : Dev nD) : Finset.univ.map ⟨up c, up_injective c⟩ = Finset.univ.erase c := by revert c; decide +kernel
/-- The fifteen steps down reach every other device. -/
theorem map_dn (c : Dev nD) : Finset.univ.map ⟨dn c, dn_injective c⟩ = Finset.univ.erase c := by revert c; decide +kernel

/-! ## The buffers -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S512x1024 .f32 := Memref.whole cc0_stg3_0
abbrev kA : Memref sig .tc .hbm S1x2048x32x128 .f32 := Memref.whole main_arg2
abbrev vA : Memref sig .tc .hbm S1x2048x32x128 .f32 := Memref.whole main_arg3
abbrev kM : Memref sig .tc .vmem S2x2048x128 .f32 := Memref.whole cc0_scratch0
abbrev vM : Memref sig .tc .vmem S2x2048x128 .f32 := Memref.whole cc0_scratch1
abbrev sbM : Memref sig .tc .vmem S512x1024 .bf16 := Memref.whole cc0_scratch3
abbrev agbM : Memref sig .tc .vmem S32x1024 .bf16 := Memref.whole cc0_scratch4
abbrev rsM : Memref sig .tc .vmem S16x32x1024 .bf16 := Memref.whole cc0_scratch5
abbrev agM : Memref sig .tc .vmem S16x32x1024 .bf16 := Memref.whole cc0_scratch6

/-- Row `j` lies inside a receive buffer. -/
theorem slot_inb (j : Dev nD) : ∀ a, (![j.val, 0, 0] : Fin 3 → ℕ) a + S1x32x1024.size a ≤ S16x32x1024.size a := by
  revert j; decide +kernel
/-- Chunk `j` lies inside the output. -/
theorem chunk_inb (j : Dev nD) : ∀ a, (![32 * j.val, 0] : Fin 2 → ℕ) a + S32x1024.size a ≤ S512x1024.size a := by
  revert j; decide +kernel
/-- The device's head `j` lies inside the array of all heads. -/
theorem head_inb (c : Dev nD) (j : Fin 2) : ∀ a, (![0, 0, 2 * c.val + j.val, 0] : Fin 4 → ℕ) a + S1x2048x1x128.size a ≤ S1x2048x32x128.size a := by
  revert c j; decide +kernel
/-- Slot `j` lies inside the two slots of heads. -/
theorem kvslot_inb (j : Fin 2) : ∀ a, (![j.val, 0, 0] : Fin 3 → ℕ) a + S1x2048x128.size a ≤ S2x2048x128.size a := by
  revert j; decide +kernel

abbrev slotR (j : Dev nD) : Rect S16x32x1024 := Rect.unit (s := S16x32x1024) ![j.val, 0, 0] S1x32x1024.size (slot_inb j)
abbrev chunkR (j : Dev nD) : Rect S512x1024 := Rect.unit (s := S512x1024) ![32 * j.val, 0] S32x1024.size (chunk_inb j)
abbrev headR (c : Dev nD) (j : Fin 2) : Rect S1x2048x32x128 :=
  Rect.unit (s := S1x2048x32x128) ![0, 0, 2 * c.val + j.val, 0] S1x2048x1x128.size (head_inb c j)
abbrev kvslotR (j : Fin 2) : Rect S2x2048x128 := Rect.unit (s := S2x2048x128) ![j.val, 0, 0] S1x2048x128.size (kvslot_inb j)

/-- Entry `j` of a landing buffer of sixteen blocks of rows; -/
abbrev slot (M : Memref sig .tc .vmem S16x32x1024 .bf16) (j : Dev nD) : Memref sig .tc .vmem S32x1024 .bf16 :=
  (M.slice (slotR j) (fun _ => rfl)).squeeze S32x1024 squeezes_S1x32x1024_S32x1024
/-- the rows of the send buffer that are device `j`'s; -/
abbrev chunk (j : Dev nD) : Memref sig .tc .vmem S32x1024 .bf16 := sbM.slice (chunkR j) (fun _ => rfl)
/-- head `2c + j` of the keys or the values; -/
abbrev head (M : Memref sig .tc .hbm S1x2048x32x128 .f32) (c : Dev nD) (j : Fin 2) : Memref sig .tc .hbm S2048x128 .f32 :=
  (M.slice (headR c j) (fun _ => rfl)).squeeze S2048x128 squeezes_S1x2048x1x128_S2048x128
/-- entry `j` of a buffer of two heads. -/
abbrev kvslot (M : Memref sig .tc .vmem S2x2048x128 .f32) (j : Fin 2) : Memref sig .tc .vmem S2048x128 .f32 :=
  (M.slice (kvslotR j) (fun _ => rfl)).squeeze S2048x128 squeezes_S1x2048x128_S2048x128

/-! ## The semaphores -/

abbrev barS : Sem sig := (SemArray.scalar (sig.barrier 0 rfl) : Sems sig S_).sem

set_option backward.proofsInPublic true in
def kvQ (i : Fin 4) : DmaSem sig := ⟨4 + i.val, by have := i.isLt; show _ < 72; omega⟩
set_option backward.proofsInPublic true in
def rsSQ (j : Dev nD) : DmaSem sig := ⟨8 + j.val, by have : j.val < 16 := j.isLt; show _ < 72; omega⟩
set_option backward.proofsInPublic true in
def rsRQ (j : Dev nD) : DmaSem sig := ⟨24 + j.val, by have : j.val < 16 := j.isLt; show _ < 72; omega⟩
set_option backward.proofsInPublic true in
def agSQ (j : Dev nD) : DmaSem sig := ⟨40 + j.val, by have : j.val < 16 := j.isLt; show _ < 72; omega⟩
set_option backward.proofsInPublic true in
def agRQ (j : Dev nD) : DmaSem sig := ⟨56 + j.val, by have : j.val < 16 := j.isLt; show _ < 72; omega⟩

abbrev bar (c : Dev nD) : GSem nD τ sig := ((c : Thread nD τ), .reg barS)
abbrev kvC (c : Dev nD) (i : Fin 4) : GSem nD τ sig := ((c : Thread nD τ), .dma (kvQ i))
abbrev rsS (c j : Dev nD) : GSem nD τ sig := ((c : Thread nD τ), .dma (rsSQ j))
abbrev rsR (c j : Dev nD) : GSem nD τ sig := ((c : Thread nD τ), .dma (rsRQ j))
abbrev agS (c j : Dev nD) : GSem nD τ sig := ((c : Thread nD τ), .dma (agSQ j))
abbrev agR (c j : Dev nD) : GSem nD τ sig := ((c : Thread nD τ), .dma (agRQ j))

/-- What a transfer semaphore is for. -/
inductive Use
  | stage
  | kv (i : Fin 4)
  | rsS (j : Dev nD)
  | rsR (j : Dev nD)
  | agS (j : Dev nD)
  | agR (j : Dev nD)
deriving DecidableEq

set_option backward.proofsInPublic true in
def useOf (q : DmaSem sig) : Use :=
  if q.val < 4 then .stage
  else if q.val < 8 then .kv ⟨(q.val - 4) % 4, Nat.mod_lt _ (by decide)⟩
  else if q.val < 24 then .rsS ⟨(q.val - 8) % 16, Nat.mod_lt _ (by decide)⟩
  else if q.val < 40 then .rsR ⟨(q.val - 24) % 16, Nat.mod_lt _ (by decide)⟩
  else if q.val < 56 then .agS ⟨(q.val - 40) % 16, Nat.mod_lt _ (by decide)⟩
  else .agR ⟨(q.val - 56) % 16, Nat.mod_lt _ (by decide)⟩

/-- A head copy's semaphore is read back as that copy's. -/
theorem use_kv (i : Fin 4) : useOf (kvQ i) = .kv i := by revert i; decide +kernel
/-- The first exchange's send semaphore is read back as that. -/
theorem use_rsS (j : Dev nD) : useOf (rsSQ j) = .rsS j := by revert j; decide +kernel
/-- The first exchange's receive semaphore is read back as that. -/
theorem use_rsR (j : Dev nD) : useOf (rsRQ j) = .rsR j := by revert j; decide +kernel
/-- The second exchange's send semaphore is read back as that. -/
theorem use_agS (j : Dev nD) : useOf (agSQ j) = .agS j := by revert j; decide +kernel
/-- The second exchange's receive semaphore is read back as that. -/
theorem use_agR (j : Dev nD) : useOf (agRQ j) = .agR j := by revert j; decide +kernel

/-- One entry of a semaphore array of the kernel's is the semaphore its offset names. -/
theorem sem_kv (i : Fin 4) (inb : ∀ a, (![i.val] : Fin 1 → ℕ) a + S1.size a ≤ S4.size a) :
    ((cc0_scratch2.slice (Rect.unit (s := S4) ![i.val] S1.size inb)).squeeze S_ squeezes_S1_S_).sem = kvQ i := by
  revert inb; revert i; decide +kernel
/-- Entry `j` of the first exchange's send semaphores. -/
theorem sem_rsS (j : Dev nD) (inb : ∀ a, (![j.val] : Fin 1 → ℕ) a + S1.size a ≤ S16.size a) :
    ((cc0_scratch7.slice (Rect.unit (s := S16) ![j.val] S1.size inb)).squeeze S_ squeezes_S1_S_).sem = rsSQ j := by
  revert inb; revert j; decide +kernel
/-- Entry `j` of the first exchange's receive semaphores. -/
theorem sem_rsR (j : Dev nD) (inb : ∀ a, (![j.val] : Fin 1 → ℕ) a + S1.size a ≤ S16.size a) :
    ((cc0_scratch8.slice (Rect.unit (s := S16) ![j.val] S1.size inb)).squeeze S_ squeezes_S1_S_).sem = rsRQ j := by
  revert inb; revert j; decide +kernel
/-- Entry `j` of the second exchange's send semaphores. -/
theorem sem_agS (j : Dev nD) (inb : ∀ a, (![j.val] : Fin 1 → ℕ) a + S1.size a ≤ S16.size a) :
    ((cc0_scratch9.slice (Rect.unit (s := S16) ![j.val] S1.size inb)).squeeze S_ squeezes_S1_S_).sem = agSQ j := by
  revert inb; revert j; decide +kernel
/-- Entry `j` of the second exchange's receive semaphores. -/
theorem sem_agR (j : Dev nD) (inb : ∀ a, (![j.val] : Fin 1 → ℕ) a + S1.size a ≤ S16.size a) :
    ((cc0_scratch10.slice (Rect.unit (s := S16) ![j.val] S1.size inb)).squeeze S_ squeezes_S1_S_).sem = agRQ j := by
  revert inb; revert j; decide +kernel

/-- The units of a block of rows, of a head. -/
abbrev N : ℕ := (slot rsM (0 : Dev nD)).view.dmaCredit
abbrev NK : ℕ := (kvslot kM 0).view.dmaCredit
/-- A chunk's copy pays a positive amount. -/
theorem N_pos : 0 < N := View.dmaCredit_pos _ (by decide)
/-- A head's copy pays a positive amount. -/
theorem NK_pos : 0 < NK := View.dmaCredit_pos _ (by decide)

/-! ## The contents -/

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- What device `c` has staged of the input and of its columns and rows of the two projections. -/
def xC (c : Dev nD) : (cc0_stg0_0 : Ref sig .tc).ty.Contents (Elt F) :=
  (win0_0.blk (0 : Fin 1)).view.read (Elt F) (m ((c : Thread nD τ).loc main_arg0))
def wqC (c : Dev nD) : (cc0_stg1_0 : Ref sig .tc).ty.Contents (Elt F) :=
  (win0_1.blk (0 : Fin 1)).view.read (Elt F) (m ((c : Thread nD τ).loc main_arg1))
def woC (c : Dev nD) : (cc0_stg2_0 : Ref sig .tc).ty.Contents (Elt F) :=
  (win0_2.blk (0 : Fin 1)).view.read (Elt F) (m ((c : Thread nD τ).loc main_arg4))

/-- Its two heads of the keys and of the values. -/
def kX (c : Dev nD) (j : Fin 2) : Vec F S2048x128 .f32 := (head kA c j).view.read (Elt F) (m ((c : Thread nD τ).loc main_arg2))
def vX (c : Dev nD) (j : Fin 2) : Vec F S2048x128 .f32 := (head vA c j).view.read (Elt F) (m ((c : Thread nD τ).loc main_arg3))

/-- A head, and a block of rows, as a load of their entry of the buffer sees them. -/
def kvL (X : Vec F S2048x128 .f32) : Vec F S1x2048x128 .f32 := shapeCast S1x2048x128 X (by decide)
def rowL (X : Vec F S32x1024 .bf16) : Vec F S1x32x1024 .bf16 := shapeCast S1x32x1024 X (by decide)

/-- The queries of device `c`'s eight heads, and its partial product: of its eight heads' attention with its rows of the output projection. -/
def qC (c : Dev nD) : FVec F S512x1024 .f32 := k0_pay1 (xC m c) (wqC m c)
def part (c : Dev nD) : FVec F S512x1024 .f32 :=
  let q := qC m c
  let k0 := kvL (kX m c 0); let k1 := kvL (kX m c 1); let v0 := kvL (vX m c 0); let v1 := kvL (vX m c 1)
  k0_pay13 q (k0_pay3 (k0_pay2 q k0) v0) (k0_pay4 q k0 v0) (k0_pay7 (k0_pay5 q k0) (k0_pay6 q k0) v0) (k0_pay8 q k0 v0)
    (k0_pay10 (k0_pay9 q k1) v1) (k0_pay11 q k1 v1) (k0_pay12 q k1) v1 k1 v1 (woC m c)

/-- The send buffer: the partial product narrowed. -/
def sbC (c : Dev nD) : (cc0_scratch3 : Ref sig .tc).ty.Contents (Elt F) := k0_pay15 (k0_pay14 (part m c))
/-- What arrives at `c` from `j` in the first exchange: `j`'s rows for `c`. -/
def rsX (c j : Dev nD) : Vec F S32x1024 .bf16 := (chunk c).view.read (Elt F) (sbC m j)
abbrev rsL (c : Dev nD) (r : Fin 15) : Vec F S1x32x1024 .bf16 := rowL (rsX m c (dn c r))

/-- Its own rows of its partial product; -/
def own (c : Dev nD) : FVec F S32x1024 .f32 := k0_pay16 (outM.view.readAt (Elt F) (chunkR c).toLoadRect (part m c))
/-- then the arrivals added, in the order the kernel adds them: the first three, two at a time after that, -/
def acc3 (c : Dev nD) : FVec F S32x1024 .f32 := k0_pay17 (own m c) (rsL m c 0) (rsL m c 1)
def acc5 (c : Dev nD) : FVec F S32x1024 .f32 := k0_pay18 (acc3 m c) (rsL m c 2) (rsL m c 3)
def acc8 (c : Dev nD) : FVec F S32x1024 .f32 := k0_pay20 (acc5 m c) (k0_pay19 (rsL m c 4)) (rsL m c 5) (rsL m c 6)
def acc10 (c : Dev nD) : FVec F S32x1024 .f32 := k0_pay21 (acc8 m c) (rsL m c 7) (rsL m c 8)
def acc12 (c : Dev nD) : FVec F S32x1024 .f32 := k0_pay22 (acc10 m c) (rsL m c 9) (rsL m c 10)
def acc14 (c : Dev nD) : FVec F S32x1024 .f32 := k0_pay23 (acc12 m c) (rsL m c 11) (rsL m c 12)
/-- the finished rows of device `c`, -/
def fin (c : Dev nD) : FVec F S32x1024 .f32 := k0_pay24 (acc14 m c) (rsL m c 13) (rsL m c 14)
/-- and the same narrowed, which every other device receives. -/
def agC (c : Dev nD) : (cc0_scratch4 : Ref sig .tc).ty.Contents (Elt F) := k0_pay25 (acc14 m c) (rsL m c 13) (rsL m c 14)

/-- The result buffer with device `j`'s rows written. -/
def putRows (j : Dev nD) (f : (cc0_stg3_0 : Ref sig .tc).ty.Contents (Elt F)) (w : FVec F S32x1024 .f32) :
    (cc0_stg3_0 : Ref sig .tc).ty.Contents (Elt F) :=
  (outM.access (chunkR j) : View sig .tc _ _ _).write (Elt F) f w Finset.univ
/-- The result buffer of device `c` once `n` arrivals of the second exchange are in it: the partial product, its own
    finished rows over it, then those of the devices before it. -/
def outC (c : Dev nD) : ℕ → (cc0_stg3_0 : Ref sig .tc).ty.Contents (Elt F)
  | 0 => putRows c (part m c) (fin m c)
  | n + 1 => if h : n < 15 then putRows (dn c ⟨n, h⟩) (outC c n) (k0_pay26 (rowL (agC m (dn c ⟨n, h⟩)))) else outC c n

/-- After one more step the output has one more device's rows put in. -/
theorem outC_succ (c : Dev nD) (r : Fin 15) :
    outC m c (r.val + 1) = putRows (dn c r) (outC m c r.val) (k0_pay26 (rowL (agC m (dn c r)))) := dif_pos r.isLt

end Cert.AllPairs

end
-- ==== Proof.Schedule.lean ====
/-
  The schedule of the kernel's semaphores: who pays each one, how much, and what the payment hands over.

  Every semaphore has one round.
  * The barrier of `c` gets one unit from every other device `d`; with it comes the right to write entry `c` of `d`'s two
    landing buffers.
  * Each of the four head copies pays its semaphore the head's units, handing over the entry it wrote and the part of the
    source it read.
  * The `j`-th completion semaphore of the first exchange hands back the rows sent to `j`; the `j`-th arrival semaphore
    hands over entry `j` of the landing buffer, holding `j`'s rows for this device.
  * The same for the second exchange, where what is sent is one buffer read by fifteen copies at once, each holding a
    share of it.
-/
module

public import proofs.«01_k».proof.Proof.Cells

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Shares of one buffer read by fifteen copies -/

/-- What is left of a whole share after `n` pieces are given out; -/
def restS : ℕ → PosShare TreeShare
  | 0 => fullShare
  | n + 1 => (restS n).right
/-- the `n`-th piece. -/
def pieceS (n : ℕ) : PosShare TreeShare := (restS n).left

/-! ## What is handed over -/

/-- The right to write a memref's elements. -/
def room (c : Dev nD) {s : Shape} {e : EltTy} (M : Memref sig .tc .vmem s e) : sProp 𝕄 :=
  iprop(∃ f, M.view.loc (c : Thread nD τ) ↦[M.view.set]{fullShare} f)
/-- A memref's elements holding `X`. -/
def hold (c : Dev nD) {s : Shape} {e : EltTy} (M : Memref sig .tc .vmem s e) (X : s.Idx → Elt F e) : sProp 𝕄 :=
  iprop(∃ f, ⌜M.view.read (Elt F) f = X⌝ ∗ (M.view.loc (c : Thread nD τ) ↦[M.view.set]{fullShare} f))

instance room_storable (c : Dev nD) {s : Shape} {e : EltTy} (M : Memref sig .tc .vmem s e) :
    BI.Storable (upEmb : UEmb _ 𝕄) (room (F := F) c M) := by unfold room; infer_instance
instance hold_storable (c : Dev nD) {s : Shape} {e : EltTy} (M : Memref sig .tc .vmem s e) (X : s.Idx → Elt F e) :
    BI.Storable (upEmb : UEmb _ 𝕄) (hold c M X) := by unfold hold; infer_instance

/-- The part of the keys, of the values, that a head's copy reads, and the share of it. -/
def srcPts (c : Dev nD) (b : Fin 2) (j : Fin 2) : sProp 𝕄 :=
  match b with
  | 0 => (head kA c j).view.loc (c : Thread nD τ) ↦[(head kA c j).view.set]{if j = 0 then fullShare.left else fullShare.right} m ((c : Thread nD τ).loc main_arg2)
  | 1 => (head vA c j).view.loc (c : Thread nD τ) ↦[(head vA c j).view.set]{if j = 0 then fullShare.left else fullShare.right} m ((c : Thread nD τ).loc main_arg3)

instance srcPts_storable (c : Dev nD) (b j : Fin 2) : BI.Storable (upEmb : UEmb _ 𝕄) (srcPts m c b j) := by
  unfold srcPts; split <;> infer_instance

/-- What the `i`-th head copy hands over: keys of head 0, values of head 0, keys of head 1, values of head 1. -/
def kvPay (c : Dev nD) : Fin 4 → sProp 𝕄
  | 0 => iprop(hold c (kvslot kM 0) (kX m c 0) ∗ srcPts m c 0 0)
  | 1 => iprop(hold c (kvslot vM 0) (vX m c 0) ∗ srcPts m c 1 0)
  | 2 => iprop(hold c (kvslot kM 1) (kX m c 1) ∗ srcPts m c 0 1)
  | 3 => iprop(hold c (kvslot vM 1) (vX m c 1) ∗ srcPts m c 1 1)

instance kvPay_storable (c : Dev nD) (i : Fin 4) : BI.Storable (upEmb : UEmb _ 𝕄) (kvPay m c i) := by
  unfold kvPay; split <;> infer_instance

def barPay (c d : Dev nD) : sProp 𝕄 := iprop(room d (slot rsM c) ∗ room d (slot agM c))
/-- The rows of the send buffer that are `j`'s. -/
def rsSPay (c j : Dev nD) : sProp 𝕄 := (chunk j).view.loc (c : Thread nD τ) ↦[(chunk j).view.set]{fullShare} sbC m c
def rsRPay (c j : Dev nD) : sProp 𝕄 := hold c (slot rsM j) (rsX m c j)
def agPts (c : Dev nD) (q : PosShare TreeShare) : sProp 𝕄 := agbM.view.loc (c : Thread nD τ) ↦[agbM.view.set]{q} agC m c
def agSPay (c j : Dev nD) : sProp 𝕄 := agPts m c (pieceS (place c j))
def agRPay (c j : Dev nD) : sProp 𝕄 := hold c (slot agM j) (agC m j)

instance barPay_storable (c d : Dev nD) : BI.Storable (upEmb : UEmb _ 𝕄) (barPay (F := F) c d) := by unfold barPay; infer_instance
instance rsSPay_storable (c j : Dev nD) : BI.Storable (upEmb : UEmb _ 𝕄) (rsSPay m c j) := by unfold rsSPay; infer_instance
instance rsRPay_storable (c j : Dev nD) : BI.Storable (upEmb : UEmb _ 𝕄) (rsRPay m c j) := by unfold rsRPay; infer_instance
instance agPts_storable (c : Dev nD) (q : PosShare TreeShare) : BI.Storable (upEmb : UEmb _ 𝕄) (agPts m c q) := by unfold agPts; infer_instance
instance agSPay_storable (c j : Dev nD) : BI.Storable (upEmb : UEmb _ 𝕄) (agSPay m c j) := by unfold agSPay; infer_instance
instance agRPay_storable (c j : Dev nD) : BI.Storable (upEmb : UEmb _ 𝕄) (agRPay m c j) := by unfold agRPay; infer_instance

/-! ## The schedule -/

/-- The payers of a transfer semaphore's round; its units; what it hands over. -/
def dmaDuties (c : Dev nD) : Use → Finset (Dev nD)
  | .stage => ∅
  | .kv _ => {0}
  | .rsS j => if j = c then ∅ else {0}
  | .rsR j => if j = c then ∅ else {0}
  | .agS j => if j = c then ∅ else {0}
  | .agR j => if j = c then ∅ else {0}
def dmaAmount : Use → ℕ
  | .kv _ => NK
  | _ => N
def dmaPay (c : Dev nD) : Use → sProp 𝕄
  | .stage => iprop(emp)
  | .kv i => kvPay m c i
  | .rsS j => rsSPay m c j
  | .rsR j => rsRPay m c j
  | .agS j => agSPay m c j
  | .agR j => agRPay m c j

/-- Every copy pays a positive amount. -/
theorem dmaAmount_pos (u : Use) : 0 < dmaAmount u := by
  cases u <;> first | exact NK_pos | exact N_pos

instance dmaPay_storable (c : Dev nD) (u : Use) : BI.Storable (upEmb : UEmb _ 𝕄) (dmaPay m c u) := by
  cases u <;> (dsimp only [dmaPay]; infer_instance)

def sched : Rounds.Schedule (GSem nD τ sig) (Dev nD) 𝕄 where
  duties g r := if r = 0 ∧ g.1.2 = .tc then (match g.2 with | .reg _ => Finset.univ.erase g.1.1 | .dma q => dmaDuties g.1.1 (useOf q)) else ∅
  unitless _ := False
  amount g _ _ := match g.2 with | .reg _ => 1 | .dma q => dmaAmount (useOf q)
  payload g _ d := match g.2 with | .reg _ => barPay g.1.1 d | .dma q => dmaPay m g.1.1 (useOf q)
  amount_pos g _ _ _ := by
    split
    · exact Nat.one_pos
    · exact dmaAmount_pos _

instance sched_payload_storable (g : GSem nD τ sig) (r : ℕ) (d : Dev nD) :
    BI.Storable (upEmb : UEmb _ 𝕄) ((sched (F := F) m).payload g r d) := by
  dsimp only [sched]; split <;> infer_instance

section Facts
variable (c : Dev nD)

/-- No cell has a second round. -/
theorem duties_later (g : GSem nD τ sig) : ∀ r, 1 ≤ r → (sched (F := F) m).duties g r = ∅ :=
  fun r hr => by dsimp only [sched]; exact if_neg fun h => by omega

/-- A barrier is paid by every other device. -/
theorem duties_bar : (sched (F := F) m).duties (bar c) 0 = Finset.univ.erase c := by dsimp only [sched]; exact if_pos ⟨rfl, rfl⟩
/-- A copy's semaphore is paid as its use says. -/
theorem duties_dma (q : DmaSem sig) : (sched (F := F) m).duties ((c : Thread nD τ), .dma q) 0 = dmaDuties c (useOf q) := by
  dsimp only [sched]; exact if_pos ⟨rfl, rfl⟩

/-- A head copy's semaphore has one payment. -/
theorem duties_kv (i : Fin 4) : (sched (F := F) m).duties (kvC c i) 0 = {0} := by rw [duties_dma, use_kv]; rfl
/-- The first exchange's send semaphore for a peer has one payment. -/
theorem duties_rsS {j : Dev nD} (h : j ≠ c) : (sched (F := F) m).duties (rsS c j) 0 = {0} := by rw [duties_dma, use_rsS]; exact if_neg h
/-- The first exchange's receive semaphore for a peer has one payment. -/
theorem duties_rsR {j : Dev nD} (h : j ≠ c) : (sched (F := F) m).duties (rsR c j) 0 = {0} := by rw [duties_dma, use_rsR]; exact if_neg h
/-- The second exchange's send semaphore for a peer has one payment. -/
theorem duties_agS {j : Dev nD} (h : j ≠ c) : (sched (F := F) m).duties (agS c j) 0 = {0} := by rw [duties_dma, use_agS]; exact if_neg h
/-- The second exchange's receive semaphore for a peer has one payment. -/
theorem duties_agR {j : Dev nD} (h : j ≠ c) : (sched (F := F) m).duties (agR c j) 0 = {0} := by rw [duties_dma, use_agR]; exact if_neg h

/-- A device's own entries have no payer, in any round. -/
theorem duties_self {q : DmaSem sig} (h : dmaDuties c (useOf q) = ∅) : ∀ r, 0 ≤ r → (sched (F := F) m).duties ((c : Thread nD τ), .dma q) r = ∅ := fun r _ => by
  rcases Nat.eq_zero_or_pos r with rfl | hr
  · rw [duties_dma, h]
  · exact duties_later m _ r hr
/-- The first exchange sends nothing to the device itself. -/
theorem self_rsS : dmaDuties c (useOf (rsSQ c)) = ∅ := by rw [use_rsS]; exact if_pos rfl
/-- The first exchange receives nothing from the device itself. -/
theorem self_rsR : dmaDuties c (useOf (rsRQ c)) = ∅ := by rw [use_rsR]; exact if_pos rfl
/-- The second exchange sends nothing to the device itself. -/
theorem self_agS : dmaDuties c (useOf (agSQ c)) = ∅ := by rw [use_agS]; exact if_pos rfl
/-- The second exchange receives nothing from the device itself. -/
theorem self_agR : dmaDuties c (useOf (agRQ c)) = ∅ := by rw [use_agR]; exact if_pos rfl

/-- A barrier signal pays one. -/
theorem amount_bar (d : Dev nD) : (sched (F := F) m).amount (bar c) 0 d = 1 := rfl
/-- A head's copy pays its credit. -/
theorem amount_kv (i : Fin 4) (d : Dev nD) : (sched (F := F) m).amount (kvC c i) 0 d = NK := by dsimp only [sched]; rw [use_kv]; rfl
/-- A send of the first exchange pays a chunk's credit. -/
theorem amount_rsS (j d : Dev nD) : (sched (F := F) m).amount (rsS c j) 0 d = N := by dsimp only [sched]; rw [use_rsS]; rfl
/-- An arrival of the first exchange pays a chunk's credit. -/
theorem amount_rsR (j d : Dev nD) : (sched (F := F) m).amount (rsR c j) 0 d = N := by dsimp only [sched]; rw [use_rsR]; rfl
/-- A send of the second exchange pays a chunk's credit. -/
theorem amount_agS (j d : Dev nD) : (sched (F := F) m).amount (agS c j) 0 d = N := by dsimp only [sched]; rw [use_agS]; rfl
/-- An arrival of the second exchange pays a chunk's credit. -/
theorem amount_agR (j d : Dev nD) : (sched (F := F) m).amount (agR c j) 0 d = N := by dsimp only [sched]; rw [use_agR]; rfl

/-- What a barrier signal hands over. -/
theorem payload_bar (d : Dev nD) : (sched (F := F) m).payload (bar c) 0 d = barPay c d := rfl
/-- What a head's copy hands over. -/
theorem payload_kv (i : Fin 4) (d : Dev nD) : (sched (F := F) m).payload (kvC c i) 0 d = kvPay m c i := by dsimp only [sched]; rw [use_kv]; rfl
/-- What a send of the first exchange hands back. -/
theorem payload_rsS (j d : Dev nD) : (sched (F := F) m).payload (rsS c j) 0 d = rsSPay m c j := by dsimp only [sched]; rw [use_rsS]; rfl
/-- What an arrival of the first exchange hands over. -/
theorem payload_rsR (j d : Dev nD) : (sched (F := F) m).payload (rsR c j) 0 d = rsRPay m c j := by dsimp only [sched]; rw [use_rsR]; rfl
/-- What a send of the second exchange hands back. -/
theorem payload_agS (j d : Dev nD) : (sched (F := F) m).payload (agS c j) 0 d = agSPay m c j := by dsimp only [sched]; rw [use_agS]; rfl
/-- What an arrival of the second exchange hands over. -/
theorem payload_agR (j d : Dev nD) : (sched (F := F) m).payload (agR c j) 0 d = agRPay m c j := by dsimp only [sched]; rw [use_agR]; rfl

/-- A barrier expects fifteen. -/
theorem expect_bar : (sched (F := F) m).expect (bar c) 0 = 15 := by
  unfold Schedule.expect Schedule.amountOf
  rw [duties_bar, Finset.sum_congr rfl fun d _ => amount_bar m c d, Finset.sum_const, Finset.card_erase_of_mem (Finset.mem_univ _),
    Finset.card_univ, Fintype.card_fin]; rfl
/-- A cell with one payment expects that payment's amount. -/
theorem expect_one {g : GSem nD τ sig} {a : ℕ} (hd : (sched (F := F) m).duties g 0 = {0}) (ha : (sched (F := F) m).amount g 0 0 = a) :
    (sched (F := F) m).expect g 0 = a := by
  unfold Schedule.expect Schedule.amountOf; rw [hd, Finset.sum_singleton, ha]
/-- A cell with one payment hands over that payment's contents. -/
theorem rest_one {g : GSem nD τ sig} {P : sProp 𝕄} (hd : (sched (F := F) m).duties g 0 = {0}) (hp : (sched (F := F) m).payload g 0 0 = P) :
    bigSep ((sched (F := F) m).duties g 0 \ ∅) (fun d => (sched (F := F) m).payload g 0 d) = P := by
  rw [Finset.sdiff_empty, hd, bigSep_singleton, hp]

end Facts

/-! ## The debts and the levels -/

/-- What `c` still owes the barriers of the devices `up c r`, the arrival semaphores of the first exchange, those of the second, for the `r` of a list. -/
def dueBar (c : Dev nD) : List (Fin 15) → CellTallies nD τ sig Unit
  | [] => 0
  | r :: l => dueBar c l + tallyAt (bar (up c r)) () 1
def dueRS (c : Dev nD) : List (Fin 15) → CellTallies nD τ sig Unit
  | [] => 0
  | r :: l => dueRS c l + tallyAt (rsR (up c r) c) () N
def dueAG (c : Dev nD) : List (Fin 15) → CellTallies nD τ sig Unit
  | [] => 0
  | r :: l => dueAG c l + tallyAt (agR (up c r) c) () N

/-- All the partners, in order. -/
abbrev all : List (Fin 15) := List.finRange 15

def O₂ (c : Dev nD) : CellTallies nD τ sig Unit := dueAG c all
def O₁ (c : Dev nD) : CellTallies nD τ sig Unit := O₂ c + dueRS c all
def O₀ (c : Dev nD) : CellTallies nD τ sig Unit := O₁ c + dueBar c all

def L (g : GSem nD τ sig) : Finset Unit := if g.1.2 = .tc then {()} else ∅
/-- Barriers first, then the arrivals of the first exchange, then those of the second; everything else is awaited below them. -/
def lvUse : Use → ℕ
  | .rsR _ => 2
  | .agR _ => 3
  | _ => 0
def lv (g : GSem nD τ sig) (_ : Unit) : ℕ := match g.2 with | .reg _ => 1 | .dma q => lvUse (useOf q)

/-- Only the tensor cores' cells have a level. -/
theorem L_of_ne (g : GSem nD τ sig) (h : g.1.2 ≠ .tc) : L g = ∅ := if_neg h
/-- Every tensor core's cell has the one level. -/
theorem L_tc (c : Dev nD) (sm : SemLoc sig) : L ((c : Thread nD τ), sm) = {()} := if_pos rfl

/-- Every debt of `O` is to a TensorCore's semaphore of a level above `n`. -/
def Above (n : ℕ) (O : CellTallies nD τ sig Unit) : Prop := ∀ g u, 0 < O g u → g.1.2 = .tc ∧ n < lv g u

/-- Owing nothing is above every level. -/
theorem Above.zero (n : ℕ) : Above n 0 := fun g u h => absurd h (Nat.lt_irrefl 0)
/-- Two debts above a level are together above it. -/
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt to a cell above the level is above it. -/
theorem Above.tally {n : ℕ} {c : Dev nD} {sm : SemLoc sig} (k : ℕ) (h : n < lv ((c : Thread nD τ), sm) ()) :
    Above n (tallyAt ((c : Thread nD τ), sm) () k) := fun g u hg => by
  rw [tallyAt_apply] at hg
  by_cases he : g = ((c : Thread nD τ), sm) ∧ u = ()
  · obtain ⟨rfl, rfl⟩ := he; exact ⟨rfl, h⟩
  · rw [if_neg he] at hg; exact absurd hg (Nat.lt_irrefl 0)

/-- The barrier is at level one. -/
theorem lv_bar (c : Dev nD) : lv (bar c) () = 1 := rfl
/-- The first exchange's arrivals are at level two. -/
theorem lv_rsR (c j : Dev nD) : lv (rsR c j) () = 2 := by dsimp only [lv]; rw [use_rsR]; rfl
/-- The second exchange's arrivals are at level three. -/
theorem lv_agR (c j : Dev nD) : lv (agR c j) () = 3 := by dsimp only [lv]; rw [use_agR]; rfl

/-- The barrier's debts are above level zero. -/
theorem above_bar (c : Dev nD) : ∀ l, Above 0 (dueBar c l)
  | [] => Above.zero 0
  | _ :: l => (above_bar c l).add (Above.tally 1 (by rw [lv_bar]; decide))
/-- The first exchange's debts are above level one. -/
theorem above_rs (c : Dev nD) : ∀ l, Above 1 (dueRS c l)
  | [] => Above.zero 1
  | _ :: l => (above_rs c l).add (Above.tally N (by rw [lv_rsR]; decide))
/-- The second exchange's debts are above level two. -/
theorem above_ag (c : Dev nD) : ∀ l, Above 2 (dueAG c l)
  | [] => Above.zero 2
  | _ :: l => (above_ag c l).add (Above.tally N (by rw [lv_agR]; decide))
/-- Above a level is above every lower one. -/
theorem Above.mono {n k : ℕ} (hk : k ≤ n) {O : CellTallies nD τ sig Unit} (h : Above n O) : Above k O :=
  fun g u hg => ⟨(h g u hg).1, Nat.lt_of_le_of_lt hk (h g u hg).2⟩
/-- The debts after the signals are above level one. -/
theorem above_O₁ (c : Dev nD) : Above 1 (O₁ c) := ((above_ag c all).mono (by decide)).add (above_rs c all)
/-- All debts are above level zero. -/
theorem above_O₀ (c : Dev nD) : Above 0 (O₀ c) := ((above_O₁ c).mono (by decide)).add (above_bar c all)

/-- A wait is allowed on a semaphore below every debt. -/
theorem mayWait (c : Dev nD) (sm : SemLoc sig) {O : CellTallies nD τ sig Unit} {n : ℕ} (hn : lv ((c : Thread nD τ), sm) () = n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp, hn])
    (fun g u hg => (hO g u hg).2)

end Cert.AllPairs

end
-- ==== Proof.Steps.lean ====
/-
  One rule per kind of step the kernel takes: a barrier signal, the barrier wait, a head copy and its wait, a send and
  its waits in each of the two exchanges. Each rule moves a phase's state from `r` to `r + 1`; the phases are lists of
  what is still to do and what is done, over the fifteen partners in the kernel's order.
-/
module

public import proofs.«01_k».proof.Proof.Schedule

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running a program on device `c`'s TensorCore to `Q`. -/
abbrev runs (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## Items in a row -/

/-- `Φ` of every entry of a list. -/
def chain {ι : Type} (Φ : ι → sProp 𝕄) : List ι → sProp 𝕄
  | [] => iprop(emp)
  | r :: l => iprop(Φ r ∗ chain Φ l)

/-- An entry is put at the end of a chain. -/
theorem chain_snoc {ι : Type} (Φ : ι → sProp 𝕄) (r : ι) : ∀ l, iprop(chain Φ l ∗ Φ r) ⊢ chain Φ (l ++ [r])
  | [] => by
    show iprop(emp ∗ Φ r) ⊢ iprop(Φ r ∗ emp)
    iintro ⟨-, H⟩
    isplitl; · iexact H
    iempintro
  | a :: l => by
    show iprop((Φ a ∗ chain Φ l) ∗ Φ r) ⊢ iprop(Φ a ∗ chain Φ (l ++ [r]))
    iintro ⟨⟨Ha, Hl⟩, Hr⟩
    isplitl [Ha]; · iexact Ha
    iapply (chain_snoc Φ r l); isplitl [Hl] <;> iassumption

/-- The last entry is taken off a chain. -/
theorem chain_unsnoc {ι : Type} (Φ : ι → sProp 𝕄) (r : ι) : ∀ l, chain Φ (l ++ [r]) ⊢ iprop(chain Φ l ∗ Φ r)
  | [] => by
    show iprop(Φ r ∗ emp) ⊢ iprop(emp ∗ Φ r)
    iintro ⟨H, -⟩
    isplitr; · iempintro
    iexact H
  | a :: l => by
    show iprop(Φ a ∗ chain Φ (l ++ [r])) ⊢ iprop((Φ a ∗ chain Φ l) ∗ Φ r)
    iintro ⟨Ha, Hl⟩
    ihave H := (chain_unsnoc Φ r l) $$ Hl
    icases H with ⟨Hl, Hr⟩
    isplitr [Hr]
    · isplitl [Ha] <;> iassumption
    iexact Hr

/-- A chain without repetition is a product. -/
theorem chain_eq {ι : Type} [DecidableEq ι] (Φ : ι → sProp 𝕄) : ∀ {l : List ι}, l.Nodup → chain Φ l = bigSep l.toFinset Φ
  | [], _ => by rw [List.toFinset_nil, bigSep_empty]; rfl
  | a :: l, h => by
    rw [List.toFinset_cons, bigSep_insert (fun hm => (List.nodup_cons.mp h).1 (List.mem_toFinset.mp hm)), ← chain_eq Φ (List.nodup_cons.mp h).2]; rfl

/-- The list of all partners in two at `r`. -/
theorem drop_all (r : Fin 15) : all.drop r.val = r :: all.drop (r.val + 1) := by revert r; decide
/-- The first `r + 1` steps are the first `r` and step `r`. -/
theorem take_all (r : Fin 15) : all.take (r.val + 1) = all.take r.val ++ [r] := by revert r; decide
/-- The chain of all steps is the product over them. -/
theorem chain_all (Φ : Fin 15 → sProp 𝕄) : chain Φ all = bigSep Finset.univ Φ := by
  rw [chain_eq Φ (List.nodup_finRange 15), List.toFinset_finRange]

/-! ## The cells' records -/

/-- Semaphore `k` of the exchange's 69: its 68 transfer semaphores, then the barrier. -/
def csem (k : Fin 69) : SemLoc sig := if h : k.val < 68 then .dma ⟨4 + k.val, by show _ < 72; omega⟩ else .reg barS
abbrev kcell (ck : Dev nD × Fin 69) : GSem nD τ sig := ((ck.1 : Thread nD τ), csem ck.2)

/-- A device's 69 cells have different semaphores. -/
theorem csem_injective : Function.Injective csem := by decide +kernel
/-- All cells are different. -/
theorem kcell_injective : Function.Injective (kcell : Dev nD × Fin 69 → GSem nD τ sig) := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨kcell, kcell_injective⟩

/-- Each barrier is among the cells. -/
theorem mem_bar (c : Dev nD) : bar c ∈ exCells := Finset.mem_map.mpr ⟨(c, 68), Finset.mem_univ _, rfl⟩
/-- Each copy's semaphore after the staging's four is among the cells. -/
theorem mem_dma (c : Dev nD) (q : DmaSem sig) (hq : 4 ≤ q.val) : (((c : Thread nD τ), .dma q) : GSem nD τ sig) ∈ exCells :=
  Finset.mem_map.mpr ⟨(c, ⟨q.val - 4, by have : q.val < 72 := q.isLt; omega⟩), Finset.mem_univ _, by
    have : q.val < 72 := q.isLt
    refine Prod.ext rfl ?_
    show csem _ = _
    unfold csem; rw [dif_pos (by show q.val - 4 < 68; omega)]
    exact congrArg SemLoc.dma (Fin.ext (by show 4 + (q.val - 4) = q.val; omega))⟩

/-- Every semaphore's invariant, that its round is open, and the levels. -/
def ctx (K : GSem nD τ sig → ℕ) : sProp 𝕄 :=
  iprop((bigSep exCells fun g => cellInv ER (sched m) (K g) g) ∗ (bigSep exCells fun g => reached ER g 0) ∗ levAts L lv)

variable (K : GSem nD τ sig → ℕ)

instance ctx_persistent : BI.Persistent (ctx (F := F) m K) := by unfold ctx; infer_instance

/-- The records hold every cell's invariant. -/
theorem ctx_inv {g : GSem nD τ sig} (h : g ∈ exCells) : ctx m K ⊢ cellInv ER (sched m) (K g) g :=

  (BI.sep_and.trans and_elimL).trans (bigSep_elim (Φ := fun g => (cellInv ER (sched m) (K g) g : sProp 𝕄)) h)
/-- The records hold that every cell has reached its first round. -/
theorem ctx_reached {g : GSem nD τ sig} (h : g ∈ exCells) : ctx m K ⊢ reached ER g 0 :=

  (BI.sep_and.trans and_elimR).trans ((BI.sep_and.trans and_elimL).trans (bigSep_elim (Φ := fun g => (reached ER g 0 : sProp 𝕄)) h))
/-- A wait is allowed when all debts are above its level. -/
theorem may_of (c : Dev nD) (sm : SemLoc sig) {O : CellTallies nD τ sig Unit} {n : ℕ} (hn : lv ((c : Thread nD τ), sm) () = n) (hO : Above n O) :
    ctx m K ⊢ MayWait (c : Thread nD τ) sm () O := by
  have e : (levAts L lv : sProp 𝕄) ⊢ MayWait (c : Thread nD τ) sm () O := mayWait c sm hn hO
  unfold ctx; iintro ⟨-, -, #H⟩; iapply e; iexact H
/-- The records hold the levels. -/
theorem ctx_lev : ctx m K ⊢ levAts L lv := by unfold ctx; iintro ⟨-, -, #H⟩; iexact H

/-- Device `c`'s debts, whatever it has waited on. -/
def debts (c : Dev nD) (O : CellTallies nD τ sig Unit) : sProp 𝕄 := iprop(∃ W, owes (c : Thread nD τ) O W)

/-! ## The barrier -/

def sigItem (c : Dev nD) (r : Fin 15) : sProp 𝕄 := iprop(dutyTok ER (bar (up c r)) 0 c ∗ barPay (up c r) c)
/-- Before the `n`-th signal. -/
def sigSt (c : Dev nD) (n : ℕ) : sProp 𝕄 :=
  iprop(ctx m K ∗ debts c (O₁ c + dueBar c (all.drop n)) ∗ chain (sigItem c) (all.drop n))

/-- A signal to `n = up c r`. -/
theorem sig_step (c : Dev nD) (r : Fin 15) (n : Dev nD) (hn : n = up c r) {α : Type} {Q : α → sProp 𝕄}
    {k : PUnit → Prog (TpuEff nD τ sig (Elt F) Λ₀ .tc) α} :
    sigSt m K c r.val ⊢ iprop((sigSt m K c (r.val + 1) -∗ runs c (k ⟨⟩) Q)
      -∗ runs c (.op (.semSignal ((n, .tc) : Thread nD τ) barS (1#32).toInt) k) Q) := by
  subst hn
  unfold sigSt debts
  rw [drop_all r]
  iintro ⟨#Hx, ⟨%W, HO⟩, HS⟩ Hk
  ihave HS := (Entails.of_eq (show chain (sigItem (F := F) c) (r :: all.drop (r.val + 1)) = iprop((dutyTok ER (bar (up c r)) 0 c ∗ barPay (up c r) c) ∗ chain (sigItem c) (all.drop (r.val + 1))) from rfl)) $$ HS
  icases HS with ⟨⟨Ht, Hp⟩, HS⟩
  iapply (Rounds.wp_signal 𝒱₀ ER (sched m) (c : Thread nD τ) none (dst := (up c r : Thread nD τ)) (κ := K (bar (up c r))) (r := 0)
      (d := c) (by rw [duties_bar]; exact Finset.mem_erase.mpr ⟨fun h => up_ne c r h.symm, Finset.mem_univ _⟩) ((amount_bar m (up c r) c).trans (by decide)) ()
      (O₁ c + dueBar c (all.drop (r.val + 1))) (by rw [add_assoc])) $$ [HO Ht Hp]
  · isplitr; · iapply (ctx_inv m K (mem_bar _)); iexact Hx
    isplitl [HO]; · iexact HO
    isplitl [Ht]; · iexact Ht
    isplitl [Hp]; · rw [payload_bar]; iexact Hp
    iapply (ctx_reached m K (mem_bar _)); iexact Hx
  iintro HO
  iapply Hk
  isplitr; · iexact Hx
  isplitl [HO]; · iexists W; iexact HO
  iexact HS

/-- The barrier's wait is allowed after the signals. -/
theorem may_bar (c : Dev nD) : ctx m K ⊢ MayWait (c : Thread nD τ) (.reg barS) () (O₁ c) :=
  may_of m K c (.reg barS) (lv_bar c) (above_O₁ c)
/-- The barrier hands over what the fifteen steps hand over. -/
theorem rest_bar (c : Dev nD) : bigSep ((sched (F := F) m).duties (bar c) 0 \ ∅) (fun d => (sched (F := F) m).payload (bar c) 0 d)
    = chain (fun r => barPay c (up c r)) all := by
  rw [Finset.sdiff_empty, duties_bar, ← map_up c, bigSep_map, chain_all]
  exact bigSep_congr fun r _ => payload_bar m c (up c r)

/-- The wait for all fifteen: the right to write entry `c` of every other device's landing buffers. -/
theorem bar_wait (c : Dev nD) {α : Type} {Q : α → sProp 𝕄} {k : PUnit → Prog (TpuEff nD τ sig (Elt F) Λ₀ .tc) α} :
    iprop(ctx m K ∗ debts c (O₁ c) ∗ cred (tallyAt (bar c) () 15) ∗ atPos ER (bar c) 0 ∅ 0)
      ⊢ iprop(((ctx m K ∗ debts c (O₁ c) ∗ chain (fun r => barPay c (up c r)) all ∗ semVal (bar c) 0) -∗ runs c (k ⟨⟩) Q)
      -∗ runs c (.op (.semWait barS (15#32).toInt) k) Q) := by
  unfold debts
  iintro ⟨#Hx, ⟨%W, HO⟩, Hc, Ha⟩ Hk
  iapply (Rounds.wp_wait_rest_token 𝒱₀ ER (sched m) (c : Thread nD τ) none (κ := K (bar c))
      (wpE_semWait_eq 𝒱₀ (c : Thread nD τ) none Set.univ) (Set.mem_univ _) () (O := O₁ c) (W := W) (R := 0) (m := 0) (T := ∅)
      (k' := 15) (by rw [expect_bar])) $$ [HO Hc Ha]
  · isplitr; · iapply (ctx_inv m K (mem_bar _)); iexact Hx
    isplitl [Hc]; · iexact Hc
    isplitl [HO]; · iexact HO
    isplitr; · iapply (may_bar m K c); iexact Hx
    iexact Ha
  iintro ⟨HO, Ha, -, Hp⟩
  imod (Rounds.cell_close ER (sched m) (Set.mem_univ (K (bar c))) (fun h => h) (R := 0 + 1) (duties_later m (bar c))) $$ [Ha] with Hz
  · isplitr; · iapply (ctx_inv m K (mem_bar _)); iexact Hx
    iexact Ha
  iapply Hk
  isplitr; · iexact Hx
  isplitl [HO]; · iexists _; iexact HO
  isplitl [Hp]
  · iapply (Entails.of_eq (rest_bar m c)); iexact Hp
  iexact Hz

/-! ## A wait on one of the device's own transfer semaphores -/

/-- Waiting out the one round of a semaphore that has a single payer: what it hands over, and the semaphore at zero for good. -/
theorem one_wait (c : Dev nD) (q : DmaSem sig) (hq : 4 ≤ q.val) {O : CellTallies nD τ sig Unit} {n a : ℕ} {P : sProp 𝕄}
    (hn : lv ((c : Thread nD τ), .dma q) () = n) (hO : Above n O)
    (hd : (sched (F := F) m).duties ((c : Thread nD τ), .dma q) 0 = {0}) (ha : (sched (F := F) m).amount ((c : Thread nD τ), .dma q) 0 0 = a)
    (hp : (sched (F := F) m).payload ((c : Thread nD τ), .dma q) 0 0 = P)
    {sp sp' : Space} {s : Shape} {e e' : EltTy} {src : Memref sig .tc sp' s e'} {dst : Memref sig .tc sp s e}
    {h₁ : src.view.WordExact} {h₂ : dst.view.WordExact} (hN : dst.view.dmaCredit = a)
    {α : Type} {Q : α → sProp 𝕄} {k : PUnit → Prog (TpuEff nD τ sig (Elt F) Λ₀ .tc) α} :
    iprop(ctx m K ∗ debts c O ∗ cred (tallyAt ((c : Thread nD τ), .dma q) () a) ∗ atPos ER ((c : Thread nD τ), .dma q) 0 ∅ 0)
      ⊢ iprop(((debts c O ∗ P ∗ semVal ((c : Thread nD τ), .dma q) 0) -∗ runs c (k ⟨⟩) Q)
      -∗ runs c (.op (.waitDma2 q src dst h₁ h₂) k) Q) := by
  subst hN
  unfold debts
  iintro ⟨#Hx, ⟨%W, HO⟩, Hc, Ha⟩ Hk
  iapply (Rounds.wp_wait_rest_token 𝒱₀ ER (sched m) (c : Thread nD τ) none (κ := K ((c : Thread nD τ), .dma q))
      (wpE_waitDma2_eq 𝒱₀ (c : Thread nD τ) none Set.univ) (Set.mem_univ _) () (O := O) (W := W) (R := 0) (m := 0) (T := ∅)
      (by rw [Nat.zero_add, expect_one m hd ha])) $$ [HO Hc Ha]
  · isplitr; · iapply (ctx_inv m K (mem_dma c q hq)); iexact Hx
    isplitl [Hc]; · iexact Hc
    isplitl [HO]; · iexact HO
    isplitr; · iapply (may_of m K c (.dma q) hn hO); iexact Hx
    iexact Ha
  iintro ⟨HO, Ha, -, Hp⟩
  imod (Rounds.cell_close ER (sched m) (Set.mem_univ (K ((c : Thread nD τ), .dma q))) (fun h => h) (R := 0 + 1) (duties_later m _)) $$ [Ha] with Hz
  · isplitr; · iapply (ctx_inv m K (mem_dma c q hq)); iexact Hx
    iexact Ha
  iapply Hk
  isplitl [HO]; · iexists _; iexact HO
  isplitl [Hp]; · iapply (Entails.of_eq (rest_one m hd hp)); iexact Hp
  iexact Hz

end Cert.AllPairs

end
-- ==== Proof.Moves.lean ====
/-
  The transfers. A head copy, a send of the first exchange, a send of the second; the waits, in any of the phases that
  wait for one semaphore after another; and what a load of a landed block reads.
-/
module

public import proofs.«01_k».proof.Proof.Steps

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- The head copies' semaphores come after the staging's four. -/
theorem own_kv (i : Fin 4) : 4 ≤ (kvQ i).val := by revert i; decide +kernel
/-- The first exchange's send semaphores come after the staging's four. -/
theorem own_rsS (j : Dev nD) : 4 ≤ (rsSQ j).val := by revert j; decide +kernel
/-- The first exchange's receive semaphores come after the staging's four. -/
theorem own_rsR (j : Dev nD) : 4 ≤ (rsRQ j).val := by revert j; decide +kernel
/-- The second exchange's send semaphores come after the staging's four. -/
theorem own_agS (j : Dev nD) : 4 ≤ (agSQ j).val := by revert j; decide +kernel
/-- The second exchange's receive semaphores come after the staging's four. -/
theorem own_agR (j : Dev nD) : 4 ≤ (agRQ j).val := by revert j; decide +kernel

/-- What a copy has written, a memref holds. -/
theorem hold_write (c : Dev nD) {s : Shape} {e : EltTy} (M : Memref sig .tc .vmem s e) (f : Buf (Elt F) (M.view.loc (c : Thread nD τ)))
    (w : s.Idx → Elt F e) : (M.view.loc (c : Thread nD τ) ↦[M.view.set]{fullShare} (M.view.write (Elt F) f w Finset.univ)) ⊢ hold c M w := by
  unfold hold
  iintro H; iexists (M.view.write (Elt F) f w Finset.univ)
  isplitr
  · ipureintro; exact View.read_write_univ _ _
  iexact H

/-! ## The heads -/

/-- A copy of one head into its entry of its buffer. -/
theorem kv_copy (c : Dev nD) (i : Fin 4) (j : Fin 2) (A : Memref sig .tc .hbm S1x2048x32x128 .f32) (M : Memref sig .tc .vmem S2x2048x128 .f32)
    {o1 : Fin 4 → ℕ} (h1 : o1 = ![0, 0, 2 * c.val + j.val, 0]) {oS : Fin 3 → ℕ} (hS : oS = ![j.val, 0, 0]) {oq : Fin 1 → ℕ} (hq : oq = ![i.val])
    {i1 : ∀ a, o1 a + S1x2048x1x128.size a ≤ S1x2048x32x128.size a} {iS : ∀ a, oS a + S1x2048x128.size a ≤ S2x2048x128.size a}
    {iq : ∀ a, oq a + S1.size a ≤ S4.size a} (q : PosShare TreeShare) (fs : Buf (Elt F) ((head A c j).view.loc (c : Thread nD τ)))
    (hN : (kvslot M j).view.amount (.dma (kvQ i)) = NK)
    (hp : iprop(hold c (kvslot M j) ((head A c j).view.read (Elt F) fs) ∗ ((head A c j).view.loc (c : Thread nD τ) ↦[(head A c j).view.set]{q} fs))
      ⊢ kvPay m c i)
    {e1 e2 e3} {α : Type} {Q : α → sProp 𝕄} {k : PUnit → Prog (TpuEff nD τ sig (Elt F) Λ₀ .tc) α} :
    iprop(ctx m K ∗ dutyTok ER (kvC c i) 0 0 ∗ room c (kvslot M j)
        ∗ ((head A c j).view.loc (c : Thread nD τ) ↦[(head A c j).view.set]{q} fs))
      ⊢ iprop((cred (tallyAt (kvC c i) () NK) -∗ runs c (k ⟨⟩) Q)
        -∗ runs c (.op (.enqueueDma
              ((A.slice (Rect.unit (s := S1x2048x32x128) o1 S1x2048x1x128.size i1) (fun _ => rfl)).squeeze S2048x128 squeezes_S1x2048x1x128_S2048x128)
              (.here ((M.slice (Rect.unit (s := S2x2048x128) oS S1x2048x128.size iS) (fun _ => rfl)).squeeze S2048x128 squeezes_S1x2048x128_S2048x128))
              (.dma ((cc0_scratch2.slice (Rect.unit (s := S4) oq S1.size iq)).squeeze S_ squeezes_S1_S_).sem) e1 e2 e3) k) Q) := by
  subst h1 hS hq
  revert e3
  rw [sem_kv]
  intro e3
  unfold room
  iintro ⟨#Hx, Ht, ⟨%fd, Hd⟩, Hs⟩ Hk
  iapply (Rounds.wp_copy_pointsTo 𝒱₀ ER (sched m) (c : Thread nD τ) none (κ := K (kvC c i)) (r := 0) (d := 0) (q := q) (fs := fs) (fd := fd)
      (by rw [duties_kv]; exact Finset.mem_singleton_self _) () NK hN (amount_kv m c i 0) (by
        rw [payload_kv]; refine BIBase.Entails.trans ?_ hp
        exact sep_mono_left (hold_write c (kvslot M j) fd _))) $$ [Ht Hd Hs]
  · isplitr; · iapply (ctx_inv m K (mem_dma c _ (own_kv i))); iexact Hx
    isplitl [Hs]; · iexact Hs
    isplitl [Hd]; · iexact Hd
    isplitl [Ht]; · iexact Ht
    iapply (ctx_reached m K (mem_dma c _ (own_kv i))); iexact Hx
  iexact Hk

/-! ## The sends -/

def rsItem (c : Dev nD) (r : Fin 15) : sProp 𝕄 :=
  iprop(dutyTok ER (rsS c (up c r)) 0 0 ∗ dutyTok ER (rsR (up c r) c) 0 0 ∗ rsSPay m c (up c r) ∗ room (up c r) (slot rsM c))
def rsSent (c : Dev nD) (r : Fin 15) : sProp 𝕄 := cred (tallyAt (rsS c (up c r)) () N)
/-- Before the `n`-th send of the first exchange. -/
def rsSt (c : Dev nD) (n : ℕ) : sProp 𝕄 :=
  iprop(ctx m K ∗ debts c (O₂ c + dueRS c (all.drop n)) ∗ chain (rsItem m c) (all.drop n) ∗ chain (rsSent c) (all.take n))

/-- A send of the first exchange: the rows of device `up c r`, into entry `c` of its landing buffer. -/
theorem rs_step (c : Dev nD) (r : Fin 15) (t : BitVec 32) (ht : t = BitVec.ofNat 32 (1 + r.val)) (n : Dev nD) (hn : n = up c r)
    {i2 i3 i4 i5} {e0 e1 e2 e3} {α : Type} {Q : α → sProp 𝕄} {k : PUnit → Prog (TpuEff nD τ sig (Elt F) Λ₀ .tc) α} :
    rsSt m K c r.val ⊢ iprop((rsSt m K c (r.val + 1) -∗ runs c (k ⟨⟩) Q)
      -∗ runs c (.op (.enqueueDma (sbM.slice (Rect.unit (s := S512x1024) (k0_off5 c t) S32x1024.size i5) (fun _ => rfl))
            (.remote (Dev.tc n) ((rsM.slice (Rect.unit (s := S16x32x1024) (k0_off4 c) S1x32x1024.size i4) (fun _ => rfl)).squeeze S32x1024 squeezes_S1x32x1024_S32x1024)
              (.dma ((cc0_scratch7.slice (Rect.unit (s := S16) (k0_off2 c t) S1.size i2)).squeeze S_ squeezes_S1_S_).sem) e0)
            (.dma ((cc0_scratch8.slice (Rect.unit (s := S16) (k0_off3 c) S1.size i3)).squeeze S_ squeezes_S1_S_).sem) e1 e2 e3) k) Q) := by
  subst ht hn
  have h2 : k0_off2 c (BitVec.ofNat 32 (1 + r.val)) = ![(up c r).val] := k0_off2_eq c r
  have h3 : k0_off3 c = ![c.val] := k0_off3_eq c
  have h4 : k0_off4 c = ![c.val, 0, 0] := k0_off4_eq c
  have h5 : k0_off5 c (BitVec.ofNat 32 (1 + r.val)) = ![32 * (up c r).val, 0] := k0_off5_eq c r
  revert i2 i3 i4 i5
  rw [h2, h3, h4, h5]
  intro i2 i3 i4 i5
  rw [sem_rsS, sem_rsR]
  intros
  unfold rsSt debts
  rw [drop_all r, take_all r]
  iintro ⟨#Hx, ⟨%W, HO⟩, HS, Hdone⟩ Hk
  ihave HS := (Entails.of_eq (show chain (rsItem (F := F) m c) (r :: all.drop (r.val + 1)) =
    iprop((dutyTok ER (rsS c (up c r)) 0 0 ∗ dutyTok ER (rsR (up c r) c) 0 0 ∗ ((chunk (up c r)).view.loc (c : Thread nD τ) ↦[(chunk (up c r)).view.set]{fullShare} sbC m c) ∗ ∃ f, ((slot rsM c).view.loc (up c r : Thread nD τ) ↦[(slot rsM c).view.set]{fullShare} f))
      ∗ chain (rsItem m c) (all.drop (r.val + 1))) from rfl)) $$ HS
  icases HS with ⟨⟨Ht, Ht', Hp, ⟨%fd, Hd⟩⟩, HS⟩
  iapply (Rounds.wp_send_pointsTo 𝒱₀ ER (sched m) (c : Thread nD τ) none (c' := (up c r : Thread nD τ)) (κ₁ := K (rsS c (up c r))) (κ₂ := K (rsR (up c r) c))
      (r₁ := 0) (r₂ := 0) (d₁ := 0) (d₂ := 0) (q := fullShare) (fs := sbC m c) (fd := fd)
      (by rw [duties_rsS m c (up_ne c r)]; exact Finset.mem_singleton_self _)
      (by rw [duties_rsR m (up c r) (fun h => up_ne c r h.symm)]; exact Finset.mem_singleton_self _)
      () () N rfl (amount_rsS m c (up c r) 0) (amount_rsR m (up c r) c 0)
      (O₂ c + dueRS c (all.drop (r.val + 1))) (by rw [add_assoc]) (W := W)
      (by rw [payload_rsS]; exact BIBase.Entails.refl)
      (by
        rw [payload_rsR]; exact hold_write (up c r) (slot rsM c) fd _)) $$ [HO Ht Ht' Hp Hd]
  · isplitr; · iapply (ctx_inv m K (mem_dma c _ (own_rsS _))); iexact Hx
    isplitr; · iapply (ctx_inv m K (mem_dma (up c r) _ (own_rsR _))); iexact Hx
    isplitl [Hp]; · iexact Hp
    isplitl [Hd]; · iexact Hd
    isplitl [HO]; · iexact HO
    isplitl [Ht]; · iexact Ht
    isplitr; · iapply (ctx_reached m K (mem_dma c _ (own_rsS _))); iexact Hx
    isplitl [Ht']; · iexact Ht'
    iapply (ctx_reached m K (mem_dma (up c r) _ (own_rsR _))); iexact Hx
  iintro ⟨Hc, HO⟩
  iapply Hk
  isplitr; · iexact Hx
  isplitl [HO]; · iexists W; iexact HO
  isplitl [HS]; · iexact HS
  iapply (chain_snoc (rsSent (F := F) c) r); isplitl [Hdone]; · iexact Hdone
  unfold rsSent; iexact Hc

def agItem (c : Dev nD) (r : Fin 15) : sProp 𝕄 :=
  iprop(dutyTok ER (agS c (up c r)) 0 0 ∗ dutyTok ER (agR (up c r) c) 0 0 ∗ room (up c r) (slot agM c))
def agSent (c : Dev nD) (r : Fin 15) : sProp 𝕄 := cred (tallyAt (agS c (up c r)) () N)
/-- Before the `n`-th send of the second exchange. -/
def agSt (c : Dev nD) (n : ℕ) : sProp 𝕄 :=
  iprop(ctx m K ∗ debts c (dueAG c (all.drop n)) ∗ agPts m c (restS n) ∗ chain (agItem c) (all.drop n) ∗ chain (agSent c) (all.take n))

/-- One more share of the finished chunk is split off for a send. -/
theorem agPts_split (c : Dev nD) (n : ℕ) : agPts m c (restS n) ⊢ iprop((agbM.view.loc (c : Thread nD τ) ↦[agbM.view.set]{pieceS n} agC m c) ∗ agPts m c (restS (n + 1))) := by
  unfold agPts
  exact (pointsTo_share (PosShare.mem_left_op_right (restS n))).1

/-- A send of the second exchange: the finished rows of `c`, into entry `c` of the landing buffer of `up c r`. -/
theorem ag_step (c : Dev nD) (r : Fin 15) (t : BitVec 32) (ht : t = BitVec.ofNat 32 (1 + r.val)) (n : Dev nD) (hn : n = up c r)
    {i2 i3 i4} {e0 e1 e2 e3} {α : Type} {Q : α → sProp 𝕄} {k : PUnit → Prog (TpuEff nD τ sig (Elt F) Λ₀ .tc) α} :
    agSt m K c r.val ⊢ iprop((agSt m K c (r.val + 1) -∗ runs c (k ⟨⟩) Q)
      -∗ runs c (.op (.enqueueDma agbM
            (.remote (Dev.tc n) ((agM.slice (Rect.unit (s := S16x32x1024) (k0_off4 c) S1x32x1024.size i4) (fun _ => rfl)).squeeze S32x1024 squeezes_S1x32x1024_S32x1024)
              (.dma ((cc0_scratch9.slice (Rect.unit (s := S16) (k0_off2 c t) S1.size i2)).squeeze S_ squeezes_S1_S_).sem) e0)
            (.dma ((cc0_scratch10.slice (Rect.unit (s := S16) (k0_off3 c) S1.size i3)).squeeze S_ squeezes_S1_S_).sem) e1 e2 e3) k) Q) := by
  subst ht hn
  have h2 : k0_off2 c (BitVec.ofNat 32 (1 + r.val)) = ![(up c r).val] := k0_off2_eq c r
  have h3 : k0_off3 c = ![c.val] := k0_off3_eq c
  have h4 : k0_off4 c = ![c.val, 0, 0] := k0_off4_eq c
  revert i2 i3 i4
  rw [h2, h3, h4]
  intro i2 i3 i4
  rw [sem_agS, sem_agR]
  intros
  unfold agSt debts
  rw [drop_all r, take_all r]
  iintro ⟨#Hx, ⟨%W, HO⟩, Hpts, HS, Hdone⟩ Hk
  ihave HS := (Entails.of_eq (show chain (agItem (F := F) c) (r :: all.drop (r.val + 1)) =
    iprop((dutyTok ER (agS c (up c r)) 0 0 ∗ dutyTok ER (agR (up c r) c) 0 0 ∗ ∃ f, ((slot agM c).view.loc (up c r : Thread nD τ) ↦[(slot agM c).view.set]{fullShare} f))
      ∗ chain (agItem c) (all.drop (r.val + 1))) from rfl)) $$ HS
  icases HS with ⟨⟨Ht, Ht', ⟨%fd, Hd⟩⟩, HS⟩
  ihave Hpts := (agPts_split m c r.val) $$ Hpts
  icases Hpts with ⟨Hp, Hpts⟩
  iapply (Rounds.wp_send_pointsTo 𝒱₀ ER (sched m) (c : Thread nD τ) none (c' := (up c r : Thread nD τ)) (κ₁ := K (agS c (up c r))) (κ₂ := K (agR (up c r) c))
      (r₁ := 0) (r₂ := 0) (d₁ := 0) (d₂ := 0) (q := pieceS r.val) (fs := agC m c) (fd := fd)
      (by rw [duties_agS m c (up_ne c r)]; exact Finset.mem_singleton_self _)
      (by rw [duties_agR m (up c r) (fun h => up_ne c r h.symm)]; exact Finset.mem_singleton_self _)
      () () N rfl (amount_agS m c (up c r) 0) (amount_agR m (up c r) c 0)
      (dueAG c (all.drop (r.val + 1))) rfl (W := W)
      (by rw [payload_agS]; unfold agSPay; rw [place_up]; exact BIBase.Entails.refl)
      (by
        rw [payload_agR]; exact hold_write (up c r) (slot agM c) fd _)) $$ [HO Ht Ht' Hp Hd]
  · isplitr; · iapply (ctx_inv m K (mem_dma c _ (own_agS _))); iexact Hx
    isplitr; · iapply (ctx_inv m K (mem_dma (up c r) _ (own_agR _))); iexact Hx
    isplitl [Hp]; · iexact Hp
    isplitl [Hd]; · iexact Hd
    isplitl [HO]; · iexact HO
    isplitl [Ht]; · iexact Ht
    isplitr; · iapply (ctx_reached m K (mem_dma c _ (own_agS _))); iexact Hx
    isplitl [Ht']; · iexact Ht'
    iapply (ctx_reached m K (mem_dma (up c r) _ (own_agR _))); iexact Hx
  iintro ⟨Hc, HO⟩
  iapply Hk
  isplitr; · iexact Hx
  isplitl [HO]; · iexists W; iexact HO
  isplitl [Hpts]; · iexact Hpts
  isplitl [HS]; · iexact HS
  iapply (chain_snoc (agSent (F := F) c) r); isplitl [Hdone]; · iexact Hdone
  unfold agSent; iexact Hc

/-! ## The phases of waits -/

/-- A phase of waits: the semaphores in order, and what each hands over. -/
structure Waiting (c : Dev nD) where
  sem : Fin 15 → DmaSem sig
  owed : CellTallies nD τ sig Unit
  pay : Fin 15 → sProp (MT nD τ sig Unit (Elt F) ℕ UU ℕ)
  level : ℕ
  own : ∀ r, 4 ≤ (sem r).val
  lev : ∀ r, lv ((c : Thread nD τ), .dma (sem r)) () = level
  above : Above level owed
  duties : ∀ r, (sched (F := F) m).duties ((c : Thread nD τ), .dma (sem r)) 0 = {0}
  amount : ∀ r, (sched (F := F) m).amount ((c : Thread nD τ), .dma (sem r)) 0 0 = N
  payload : ∀ r, (sched (F := F) m).payload ((c : Thread nD τ), .dma (sem r)) 0 0 = pay r

variable {m} in
def Waiting.item {c : Dev nD} (w : Waiting (F := F) m c) (r : Fin 15) : sProp 𝕄 :=
  iprop(cred (tallyAt ((c : Thread nD τ), .dma (w.sem r)) () N) ∗ atPos ER ((c : Thread nD τ), .dma (w.sem r)) 0 ∅ 0)
variable {m} in
def Waiting.done {c : Dev nD} (w : Waiting (F := F) m c) (r : Fin 15) : sProp 𝕄 :=
  iprop(w.pay r ∗ semVal ((c : Thread nD τ), .dma (w.sem r)) 0)
variable {m} in
/-- Before its `n`-th wait. -/
def Waiting.st {c : Dev nD} (w : Waiting (F := F) m c) (n : ℕ) : sProp 𝕄 :=
  iprop(ctx m K ∗ debts c w.owed ∗ chain w.item (all.drop n) ∗ chain w.done (all.take n))

variable {m} in
/-- One wait of the phase. -/
theorem Waiting.step {c : Dev nD} (w : Waiting (F := F) m c) (r : Fin 15) {q : DmaSem sig} (hq : q = w.sem r)
    {sp sp' : Space} {s : Shape} {e e' : EltTy} {src : Memref sig .tc sp' s e'} {dst : Memref sig .tc sp s e} (hN : dst.view.dmaCredit = N)
    {h₁ : src.view.WordExact} {h₂ : dst.view.WordExact}
    {α : Type} {Q : α → sProp 𝕄} {k : PUnit → Prog (TpuEff nD τ sig (Elt F) Λ₀ .tc) α} :
    w.st K r.val ⊢ iprop((w.st K (r.val + 1) -∗ runs c (k ⟨⟩) Q) -∗ runs c (.op (.waitDma2 q src dst h₁ h₂) k) Q) := by
  subst hq
  unfold Waiting.st
  rw [drop_all r, take_all r]
  iintro ⟨#Hx, HO, HS, Hdone⟩ Hk
  ihave HS := (Entails.of_eq (show chain w.item (r :: all.drop (r.val + 1)) =
    iprop((cred (tallyAt ((c : Thread nD τ), .dma (w.sem r)) () N) ∗ atPos ER ((c : Thread nD τ), .dma (w.sem r)) 0 ∅ 0) ∗ chain w.item (all.drop (r.val + 1))) from rfl)) $$ HS
  icases HS with ⟨⟨Hc, Ha⟩, HS⟩
  iapply (one_wait m K c (w.sem r) (w.own r) (w.lev r) w.above (w.duties r) (w.amount r) (w.payload r) hN) $$ [HO Hc Ha]
  · isplitr; · iexact Hx
    isplitl [HO]; · iexact HO
    isplitl [Hc]; · iexact Hc
    iexact Ha
  iintro ⟨HO, Hp, Hz⟩
  iapply Hk
  isplitr; · iexact Hx
  isplitl [HO]; · iexact HO
  isplitl [HS]; · iexact HS
  iapply (chain_snoc w.done r); isplitl [Hdone]; · iexact Hdone
  unfold Waiting.done
  isplitl [Hp]; · iexact Hp
  iexact Hz

/-- The head copies are waited for at level zero. -/
theorem lv_kv (c : Dev nD) (i : Fin 4) : lv (kvC c i) () = 0 := by dsimp only [lv]; rw [use_kv]; rfl
/-- The first exchange's sends are waited for at level zero. -/
theorem lv_rsS (c j : Dev nD) : lv (rsS c j) () = 0 := by dsimp only [lv]; rw [use_rsS]; rfl
/-- The second exchange's sends are waited for at level zero. -/
theorem lv_agS (c j : Dev nD) : lv (agS c j) () = 0 := by dsimp only [lv]; rw [use_agS]; rfl

/-- The arrivals of the first exchange, the second's still to be sent; -/
def rwW (c : Dev nD) : Waiting (F := F) m c where
  sem r := rsRQ (dn c r)
  owed := O₂ c
  pay r := rsRPay m c (dn c r)
  level := 2
  own r := own_rsR _
  lev r := lv_rsR c _
  above := above_ag c all
  duties r := duties_rsR m c (dn_ne c r)
  amount r := amount_rsR m c _ 0
  payload r := payload_rsR m c _ 0
/-- the arrivals of the second; -/
def awW (c : Dev nD) : Waiting (F := F) m c where
  sem r := agRQ (dn c r)
  owed := 0
  pay r := agRPay m c (dn c r)
  level := 3
  own r := own_agR _
  lev r := lv_agR c _
  above := Above.zero 3
  duties r := duties_agR m c (dn_ne c r)
  amount r := amount_agR m c _ 0
  payload r := payload_agR m c _ 0
/-- the sends of the first; -/
def swW (c : Dev nD) : Waiting (F := F) m c where
  sem r := rsSQ (up c r)
  owed := 0
  pay r := rsSPay m c (up c r)
  level := 0
  own r := own_rsS _
  lev r := lv_rsS c _
  above := Above.zero 0
  duties r := duties_rsS m c (up_ne c r)
  amount r := amount_rsS m c _ 0
  payload r := payload_rsS m c _ 0
/-- the sends of the second. -/
def asW (c : Dev nD) : Waiting (F := F) m c where
  sem r := agSQ (up c r)
  owed := 0
  pay r := agSPay m c (up c r)
  level := 0
  own r := own_agS _
  lev r := lv_agS c _
  above := Above.zero 0
  duties r := duties_agS m c (up_ne c r)
  amount r := amount_agS m c _ 0
  payload r := payload_agS m c _ 0

/-- The wait for the arrival from `dn c r` in the first exchange; -/
theorem rw_step (c : Dev nD) (r : Fin 15) (t : BitVec 32) (ht : t = BitVec.ofNat 32 (1 + r.val)) {i7 i8}
    {sp' : Space} {e' : EltTy} {src : Memref sig .tc sp' S32x1024 e'} {h₁ h₂}
    {α : Type} {Q : α → sProp 𝕄} {k : PUnit → Prog (TpuEff nD τ sig (Elt F) Λ₀ .tc) α} :
    (rwW m c).st K r.val ⊢ iprop(((rwW m c).st K (r.val + 1) -∗ runs c (k ⟨⟩) Q)
      -∗ runs c (.op (.waitDma2 ((cc0_scratch8.slice (Rect.unit (s := S16) (k0_off7 c t) S1.size i7)).squeeze S_ squeezes_S1_S_).sem src
          ((rsM.slice (Rect.unit (s := S16x32x1024) (k0_off8 c t) S1x32x1024.size i8) (fun _ => rfl)).squeeze S32x1024 squeezes_S1x32x1024_S32x1024) h₁ h₂) k) Q) := by
  subst ht
  have h7 : k0_off7 c (BitVec.ofNat 32 (1 + r.val)) = ![(dn c r).val] := k0_off7_eq c r
  revert i7; rw [h7]; intro i7
  refine (rwW m c).step K r (sem_rsR _ _) ?_
  rfl
/-- in the second. -/
theorem aw_step (c : Dev nD) (r : Fin 15) (t : BitVec 32) (ht : t = BitVec.ofNat 32 (1 + r.val)) {i7 i8}
    {sp' : Space} {e' : EltTy} {src : Memref sig .tc sp' S32x1024 e'} {h₁ h₂}
    {α : Type} {Q : α → sProp 𝕄} {k : PUnit → Prog (TpuEff nD τ sig (Elt F) Λ₀ .tc) α} :
    (awW m c).st K r.val ⊢ iprop(((awW m c).st K (r.val + 1) -∗ runs c (k ⟨⟩) Q)
      -∗ runs c (.op (.waitDma2 ((cc0_scratch10.slice (Rect.unit (s := S16) (k0_off7 c t) S1.size i7)).squeeze S_ squeezes_S1_S_).sem src
          ((agM.slice (Rect.unit (s := S16x32x1024) (k0_off8 c t) S1x32x1024.size i8) (fun _ => rfl)).squeeze S32x1024 squeezes_S1x32x1024_S32x1024) h₁ h₂) k) Q) := by
  subst ht
  have h7 : k0_off7 c (BitVec.ofNat 32 (1 + r.val)) = ![(dn c r).val] := k0_off7_eq c r
  revert i7; rw [h7]; intro i7
  refine (awW m c).step K r (sem_agR _ _) ?_
  rfl
/-- The wait for the end of the send to `up c r` in the first exchange; -/
theorem sw_step (c : Dev nD) (r : Fin 15) (t : BitVec 32) (ht : t = BitVec.ofNat 32 (1 + r.val)) {i2 i5}
    {sp' : Space} {e' : EltTy} {src : Memref sig .tc sp' S32x1024 e'} {h₁ h₂}
    {α : Type} {Q : α → sProp 𝕄} {k : PUnit → Prog (TpuEff nD τ sig (Elt F) Λ₀ .tc) α} :
    (swW m c).st K r.val ⊢ iprop(((swW m c).st K (r.val + 1) -∗ runs c (k ⟨⟩) Q)
      -∗ runs c (.op (.waitDma2 ((cc0_scratch7.slice (Rect.unit (s := S16) (k0_off2 c t) S1.size i2)).squeeze S_ squeezes_S1_S_).sem src
          (sbM.slice (Rect.unit (s := S512x1024) (k0_off5 c t) S32x1024.size i5) (fun _ => rfl)) h₁ h₂) k) Q) := by
  subst ht
  have h2 : k0_off2 c (BitVec.ofNat 32 (1 + r.val)) = ![(up c r).val] := k0_off2_eq c r
  revert i2; rw [h2]; intro i2
  refine (swW m c).step K r (sem_rsS _ _) ?_
  rfl
/-- in the second. -/
theorem as_step (c : Dev nD) (r : Fin 15) (t : BitVec 32) (ht : t = BitVec.ofNat 32 (1 + r.val)) {i2}
    {sp' : Space} {e' : EltTy} {src : Memref sig .tc sp' S32x1024 e'} {h₁ h₂}
    {α : Type} {Q : α → sProp 𝕄} {k : PUnit → Prog (TpuEff nD τ sig (Elt F) Λ₀ .tc) α} :
    (asW m c).st K r.val ⊢ iprop(((asW m c).st K (r.val + 1) -∗ runs c (k ⟨⟩) Q)
      -∗ runs c (.op (.waitDma2 ((cc0_scratch9.slice (Rect.unit (s := S16) (k0_off2 c t) S1.size i2)).squeeze S_ squeezes_S1_S_).sem src agbM h₁ h₂) k) Q) := by
  subst ht
  have h2 : k0_off2 c (BitVec.ofNat 32 (1 + r.val)) = ![(up c r).val] := k0_off2_eq c r
  revert i2; rw [h2]; intro i2
  refine (asW m c).step K r (sem_agS _ _) ?_
  rfl

/-- The wait for a head's copy. -/
theorem kv_wait (c : Dev nD) (i : Fin 4) {oq : Fin 1 → ℕ} (hq : oq = ![i.val]) {iq : ∀ a, oq a + S1.size a ≤ S4.size a}
    {O : CellTallies nD τ sig Unit} (hO : Above 0 O)
    {sp sp' : Space} {s : Shape} {e e' : EltTy} {src : Memref sig .tc sp' s e'} {dst : Memref sig .tc sp s e} (hN : dst.view.dmaCredit = NK)
    {h₁ : src.view.WordExact} {h₂ : dst.view.WordExact}
    {α : Type} {Q : α → sProp 𝕄} {k : PUnit → Prog (TpuEff nD τ sig (Elt F) Λ₀ .tc) α} :
    iprop(ctx m K ∗ debts c O ∗ cred (tallyAt (kvC c i) () NK) ∗ atPos ER (kvC c i) 0 ∅ 0)
      ⊢ iprop(((debts c O ∗ kvPay m c i ∗ semVal (kvC c i) 0) -∗ runs c (k ⟨⟩) Q)
      -∗ runs c (.op (.waitDma2 ((cc0_scratch2.slice (Rect.unit (s := S4) oq S1.size iq)).squeeze S_ squeezes_S1_S_).sem src dst h₁ h₂) k) Q) := by
  subst hq
  rw [sem_kv]
  exact one_wait m K c (kvQ i) (own_kv i) (lv_kv c i) hO (duties_kv m c i) (amount_kv m c i 0) (payload_kv m c i 0) hN

end Cert.AllPairs

end
-- ==== Proof.Blocks.lean ====
/-
  Loads and stores of the buffers the transfers fill, and the buffers cut into the blocks that the transfers move and
  put together again.
-/
module

public import proofs.«01_k».proof.Proof.Moves

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## Loads of a landed block -/

/-- A load of one head's slot reads the block that the slot holds and leaves it held. -/
theorem load_kv (c : Dev nD) (j : Fin 2) (M : Memref sig .tc .vmem S2x2048x128 .f32) {oS : Fin 3 → ℕ} (hS : oS = ![j.val, 0, 0]) {iS hl}
    (X : Vec F S2048x128 .f32) {α : Type} {Q : α → sProp 𝕄} {k : Vec F S1x2048x128 .f32 → Prog (TpuEff nD τ sig (Elt F) Λ₀ .tc) α} :
    hold c (kvslot M j) X ⊢ iprop((hold c (kvslot M j) X -∗ runs c (k (kvL X)) Q)
      -∗ runs c (.op (.load M (Rect.unit (s := S2x2048x128) oS S1x2048x128.size iS).toLoadRect hl) k) Q) := by
  subst hS
  unfold hold
  iintro ⟨%f, %hf, H⟩ Hk
  iapply (wp_load_rect 𝒱₀ (c : Thread nD τ) none Set.univ (m := M) (r := kvslotR j) (hl := hl) (q := fullShare) (f := f) (S := (kvslot M j).view.set)
    (by rw [show (kvslot M j).view.set = ((M.slice (kvslotR j) (fun _ => rfl)).view).set from View.set_reshape _ _])) $$ H
  iintro H
  have e : (M.access (kvslotR j) : View sig .tc _ _ _).read (Elt F) f = kvL X := by
    rw [← hf]; exact (shapeCast_shapeCast (s := S1x2048x128) (t := S2048x128) ((M.access (kvslotR j) : View sig .tc _ _ _).read (Elt F) f) (by decide) (by decide)).symm
  rw [e]
  iapply Hk
  iexists f; isplitr
  · ipureintro; exact hf
  iexact H

/-- A load of one row of a receive buffer reads the block that the row holds and leaves it held. -/
theorem load_row (c j : Dev nD) (M : Memref sig .tc .vmem S16x32x1024 .bf16) {oS : Fin 3 → ℕ} (hS : oS = ![j.val, 0, 0]) {iS hl}
    (X : Vec F S32x1024 .bf16) {α : Type} {Q : α → sProp 𝕄} {k : Vec F S1x32x1024 .bf16 → Prog (TpuEff nD τ sig (Elt F) Λ₀ .tc) α} :
    hold c (slot M j) X ⊢ iprop((hold c (slot M j) X -∗ runs c (k (rowL X)) Q)
      -∗ runs c (.op (.load M (Rect.unit (s := S16x32x1024) oS S1x32x1024.size iS).toLoadRect hl) k) Q) := by
  subst hS
  unfold hold
  iintro ⟨%f, %hf, H⟩ Hk
  iapply (wp_load_rect 𝒱₀ (c : Thread nD τ) none Set.univ (m := M) (r := slotR j) (hl := hl) (q := fullShare) (f := f) (S := (slot M j).view.set)
    (by rw [show (slot M j).view.set = ((M.slice (slotR j) (fun _ => rfl)).view).set from View.set_reshape _ _])) $$ H
  iintro H
  have e : (M.access (slotR j) : View sig .tc _ _ _).read (Elt F) f = rowL X := by
    rw [← hf]; exact (shapeCast_shapeCast (s := S1x32x1024) (t := S32x1024) ((M.access (slotR j) : View sig .tc _ _ _).read (Elt F) f) (by decide) (by decide)).symm
  rw [e]
  iapply Hk
  iexists f; isplitr
  · ipureintro; exact hf
  iexact H

/-- The load of the `r`-th arrival of the first exchange, once it has been waited for. -/
theorem rw_load (c : Dev nD) (r : Fin 15) (t : BitVec 32) (ht : t = BitVec.ofNat 32 (1 + r.val)) {i9 hl}
    {α : Type} {Q : α → sProp 𝕄} {k : Vec F S1x32x1024 .bf16 → Prog (TpuEff nD τ sig (Elt F) Λ₀ .tc) α} :
    (rwW m c).st K (r.val + 1) ⊢ iprop(((rwW m c).st K (r.val + 1) -∗ runs c (k (rsL m c r)) Q)
      -∗ runs c (.op (.load rsM (Rect.unit (s := S16x32x1024) (k0_off9 c t) S1x32x1024.size i9).toLoadRect hl) k) Q) := by
  subst ht
  unfold Waiting.st
  rw [take_all r]
  iintro ⟨#Hx, HO, HS, Hdone⟩ Hk
  ihave Hdone := (chain_unsnoc (rwW m c).done r (all.take r.val)) $$ Hdone
  icases Hdone with ⟨Hdone, Hr⟩
  ihave Hr := (Entails.of_eq (show (rwW m c).done r = iprop(hold c (slot rsM (dn c r)) (rsX m c (dn c r)) ∗ semVal (rsR c (dn c r)) 0) from rfl)) $$ Hr
  icases Hr with ⟨Hr, Hz⟩
  iapply (load_row c (dn c r) rsM (k0_off9_eq c r) (rsX m c (dn c r))) $$ Hr
  iintro Hr
  iapply Hk
  isplitr; · iexact Hx
  isplitl [HO]; · iexact HO
  isplitl [HS]; · iexact HS
  iapply (chain_snoc (rwW m c).done r); isplitl [Hdone]; · iexact Hdone
  iapply (Entails.of_eq (show iprop(hold c (slot rsM (dn c r)) (rsX m c (dn c r)) ∗ semVal (rsR c (dn c r)) 0) = (rwW m c).done r from rfl))
  isplitl [Hr]; · iexact Hr
  iexact Hz

/-- The result's staging buffer. -/
def outPts (c : Dev nD) (f : (cc0_stg3_0 : Ref sig .tc).ty.Contents (Elt F)) : sProp 𝕄 := ((c : Thread nD τ).loc cc0_stg3_0) ↦{fullShare} f

/-- The rectangle of 32 rows at offset `32 * j` is device `j`'s chunk. -/
theorem chunk_off {c j : Dev nD} {o : Fin 2 → ℕ} (h : o = ![32 * j.val, 0]) (i : ∀ a, o a + S32x1024.size a ≤ S512x1024.size a) :
    Rect.unit (s := S512x1024) o S32x1024.size i = chunkR j := by subst h; rfl

/-- A load of a block of rows of the result whose value is not used. -/
theorem out_load (c : Dev nD) (f : (cc0_stg3_0 : Ref sig .tc).ty.Contents (Elt F)) (r : Rect S512x1024) {hl}
    {α : Type} {Q : α → sProp 𝕄} {k : (r.shape.Idx → Elt F .f32) → Prog (TpuEff nD τ sig (Elt F) Λ₀ .tc) α} :
    outPts c f ⊢ iprop((outPts c f -∗ runs c (k (outM.view.readAt (Elt F) r.toLoadRect f)) Q)
      -∗ runs c (.op (.load outM r.toLoadRect hl) k) Q) := by
  unfold outPts
  exact wp_load 𝒱₀ (c : Thread nD τ) none Set.univ (m := outM) (Finset.subset_univ _)
/-- A store of device `j`'s rows of the result. -/
theorem out_store (c j : Dev nD) (f : (cc0_stg3_0 : Ref sig .tc).ty.Contents (Elt F)) {o : Fin 2 → ℕ} (h : o = ![32 * j.val, 0]) {i} (w : FVec F S32x1024 .f32) {hx hm}
    {α : Type} {Q : α → sProp 𝕄} {k : PUnit → Prog (TpuEff nD τ sig (Elt F) Λ₀ .tc) α} :
    outPts c f ⊢ iprop((outPts c (putRows j f w) -∗ runs c (k ⟨⟩) Q)
      -∗ runs c (.op (.store outM (Rect.unit (s := S512x1024) o S32x1024.size i) w Finset.univ hx hm) k) Q) := by
  subst h
  unfold outPts
  exact wp_store 𝒱₀ (c : Thread nD τ) none Set.univ (m := outM) (r := chunkR j) (Mk := Finset.univ) (Finset.subset_univ _)

/-- One arrival of the second exchange, waited for: loaded, widened, and written to its rows of the result. -/
theorem take_step (c : Dev nD) (r : Fin 15) (t : BitVec 32) (ht : t = BitVec.ofNat 32 (1 + r.val)) (g : Vec F S1x32x1024 .bf16 → FVec F S32x1024 .f32) (hg : g = k0_pay26)
    {i9 i10 hl hl' hx hm} {α : Type} {Q : α → sProp 𝕄} {k : PUnit → Prog (TpuEff nD τ sig (Elt F) Λ₀ .tc) α} :
    iprop((awW m c).st K (r.val + 1) ∗ outPts c (outC m c r.val))
      ⊢ iprop((((awW m c).st K (r.val + 1) ∗ outPts c (outC m c (r.val + 1))) -∗ runs c (k ⟨⟩) Q)
      -∗ runs c (.op (.load agM (Rect.unit (s := S16x32x1024) (k0_off9 c t) S1x32x1024.size i9).toLoadRect hl) fun v =>
          .op (.load outM (Rect.unit (s := S512x1024) (k0_off10 c t) S32x1024.size i10).toLoadRect hl') fun _ =>
          .op (.store outM (Rect.unit (s := S512x1024) (k0_off10 c t) S32x1024.size i10) (g v) Finset.univ hx hm) k) Q) := by
  subst ht hg
  unfold Waiting.st
  rw [take_all r, outC_succ]
  iintro ⟨⟨#Hx, HO, HS, Hdone⟩, Hout⟩ Hk
  ihave Hdone := (chain_unsnoc (awW m c).done r (all.take r.val)) $$ Hdone
  icases Hdone with ⟨Hdone, Hr⟩
  ihave Hr := (Entails.of_eq (show (awW m c).done r = iprop(hold c (slot agM (dn c r)) (agC m (dn c r)) ∗ semVal (agR c (dn c r)) 0) from rfl)) $$ Hr
  icases Hr with ⟨Hr, Hz⟩
  iapply (load_row c (dn c r) agM (k0_off9_eq c r) (agC m (dn c r))) $$ Hr
  iintro Hr
  iapply (out_load c (outC m c r.val) _) $$ Hout
  iintro Hout
  iapply (out_store c (dn c r) (outC m c r.val) (k0_off10_eq c r) _) $$ Hout
  iintro Hout
  iapply Hk
  isplitr [Hout]
  · isplitr; · iexact Hx
    isplitl [HO]; · iexact HO
    isplitl [HS]; · iexact HS
    iapply (chain_snoc (awW m c).done r); isplitl [Hdone]; · iexact Hdone
    iapply (Entails.of_eq (show iprop(hold c (slot agM (dn c r)) (agC m (dn c r)) ∗ semVal (agR c (dn c r)) 0) = (awW m c).done r from rfl))
    isplitl [Hr]; · iexact Hr
    iexact Hz
  iexact Hout

/-! ## Whole buffers -/

/-- The two-axis offset of zeros is the zero function. -/
theorem zero2 : (![0, 0] : Fin 2 → ℕ) = fun _ => 0 := funext fun a => by fin_cases a <;> rfl
/-- The three-axis offset of zeros is the zero function. -/
theorem zero3 : (![0, 0, 0] : Fin 3 → ℕ) = fun _ => 0 := funext fun a => by fin_cases a <;> rfl

section Whole
variable (c : Dev nD)

/-- A whole buffer of a device. -/
def buf (b : Ref sig .tc) (f : b.ty.Contents (Elt F)) : sProp 𝕄 := ((c : Thread nD τ).loc b) ↦{fullShare} f
end Whole

/-- A load of the whole staged `x` reads its contents. -/
theorem x_load (c : Dev nD) {f : (cc0_stg0_0 : Ref sig .tc).ty.Contents (Elt F)} {i hl} {α : Type} {Q : α → sProp 𝕄}
    {k : Vec F S1x512x1024 .f32 → Prog (TpuEff nD τ sig (Elt F) Λ₀ .tc) α} :
    buf c cc0_stg0_0 f ⊢ iprop((buf c cc0_stg0_0 f -∗ runs c (k f) Q)
      -∗ runs c (.op (.load xM (Rect.unit (s := S1x512x1024) ![0, 0, 0] S1x512x1024.size i).toLoadRect hl) k) Q) := by
  have h := wp_load (Γ := .empty) (defs := defs₀ (F := F)) 𝒱₀ (c : Thread nD τ) none Set.univ (m := xM) (r := (Rect.unit (s := S1x512x1024) ![0, 0, 0] S1x512x1024.size i).toLoadRect)
    (hl := hl) (k := k) (Q := Q) (q := fullShare) (f := f) (S := Finset.univ) (Finset.subset_univ _)
  rw [show xM.view.readAt (Elt F) (Rect.unit (s := S1x512x1024) ![0, 0, 0] S1x512x1024.size i).toLoadRect f = f from
    Memref.readAt_unit_zero (Elt F) cc0_stg0_0 zero3 _ f] at h
  exact h
/-- A load of the whole staged `Wq` block reads its contents. -/
theorem wq_load (c : Dev nD) {f : (cc0_stg1_0 : Ref sig .tc).ty.Contents (Elt F)} {i hl} {α : Type} {Q : α → sProp 𝕄}
    {k : Vec F S1024x1024 .f32 → Prog (TpuEff nD τ sig (Elt F) Λ₀ .tc) α} :
    buf c cc0_stg1_0 f ⊢ iprop((buf c cc0_stg1_0 f -∗ runs c (k f) Q)
      -∗ runs c (.op (.load wqM (Rect.unit (s := S1024x1024) ![0, 0] S1024x1024.size i).toLoadRect hl) k) Q) := by
  have h := wp_load (Γ := .empty) (defs := defs₀ (F := F)) 𝒱₀ (c : Thread nD τ) none Set.univ (m := wqM) (r := (Rect.unit (s := S1024x1024) ![0, 0] S1024x1024.size i).toLoadRect)
    (hl := hl) (k := k) (Q := Q) (q := fullShare) (f := f) (S := Finset.univ) (Finset.subset_univ _)
  rw [show wqM.view.readAt (Elt F) (Rect.unit (s := S1024x1024) ![0, 0] S1024x1024.size i).toLoadRect f = f from
    Memref.readAt_unit_zero (Elt F) cc0_stg1_0 zero2 _ f] at h
  exact h
/-- A load of the whole staged `Wo` block reads its contents. -/
theorem wo_load (c : Dev nD) {f : (cc0_stg2_0 : Ref sig .tc).ty.Contents (Elt F)} {i hl} {α : Type} {Q : α → sProp 𝕄}
    {k : Vec F S1024x1024 .f32 → Prog (TpuEff nD τ sig (Elt F) Λ₀ .tc) α} :
    buf c cc0_stg2_0 f ⊢ iprop((buf c cc0_stg2_0 f -∗ runs c (k f) Q)
      -∗ runs c (.op (.load woM (Rect.unit (s := S1024x1024) ![0, 0] S1024x1024.size i).toLoadRect hl) k) Q) := by
  have h := wp_load (Γ := .empty) (defs := defs₀ (F := F)) 𝒱₀ (c : Thread nD τ) none Set.univ (m := woM) (r := (Rect.unit (s := S1024x1024) ![0, 0] S1024x1024.size i).toLoadRect)
    (hl := hl) (k := k) (Q := Q) (q := fullShare) (f := f) (S := Finset.univ) (Finset.subset_univ _)
  rw [show woM.view.readAt (Elt F) (Rect.unit (s := S1024x1024) ![0, 0] S1024x1024.size i).toLoadRect f = f from
    Memref.readAt_unit_zero (Elt F) cc0_stg2_0 zero2 _ f] at h
  exact h

/-- The whole result, loaded; stored over. -/
theorem out_whole (c : Dev nD) {f : (cc0_stg3_0 : Ref sig .tc).ty.Contents (Elt F)} {i hl} {α : Type} {Q : α → sProp 𝕄}
    {k : Vec F S512x1024 .f32 → Prog (TpuEff nD τ sig (Elt F) Λ₀ .tc) α} :
    outPts c f ⊢ iprop((outPts c f -∗ runs c (k f) Q)
      -∗ runs c (.op (.load outM (Rect.unit (s := S512x1024) ![0, 0] S512x1024.size i).toLoadRect hl) k) Q) := by
  have h := out_load (F := F) c f (Rect.unit (s := S512x1024) ![0, 0] S512x1024.size i) (hl := hl) (k := k) (Q := Q)
  rw [show outM.view.readAt (Elt F) (Rect.unit (s := S512x1024) ![0, 0] S512x1024.size i).toLoadRect f = f from
    Memref.readAt_unit_zero (Elt F) cc0_stg3_0 zero2 _ f] at h
  exact h
/-- A store over the whole output block leaves the stored value there. -/
theorem out_fill (c : Dev nD) {f : (cc0_stg3_0 : Ref sig .tc).ty.Contents (Elt F)} (w : FVec F S512x1024 .f32) {i hx hm} {α : Type} {Q : α → sProp 𝕄}
    {k : PUnit → Prog (TpuEff nD τ sig (Elt F) Λ₀ .tc) α} :
    outPts c f ⊢ iprop((outPts c w -∗ runs c (k ⟨⟩) Q)
      -∗ runs c (.op (.store outM (Rect.unit (s := S512x1024) ![0, 0] S512x1024.size i) w Finset.univ hx hm) k) Q) := by
  have h := wp_store (Γ := .empty) (defs := defs₀ (F := F)) 𝒱₀ (c : Thread nD τ) none Set.univ (m := outM) (r := Rect.unit (s := S512x1024) ![0, 0] S512x1024.size i)
    (w := w) (Mk := Finset.univ) (hx := hx) (hm := hm) (k := k) (Q := Q) (f := f) (S := Finset.univ) (Finset.subset_univ _)
  rw [show (outM.access (Rect.unit (s := S512x1024) ![0, 0] S512x1024.size i) : View sig .tc _ _ _).write (Elt F) f w Finset.univ = w from
    Memref.write_access_unit_zero_univ (Elt F) cc0_stg3_0 zero2 _ f w] at h
  exact h
/-- The send buffer of the first exchange, loaded (the value unused) and stored. -/
theorem sb_load (c : Dev nD) {f : (cc0_scratch3 : Ref sig .tc).ty.Contents (Elt F)} {i hl} {α : Type} {Q : α → sProp 𝕄}
    {k : Vec F S512x1024 .bf16 → Prog (TpuEff nD τ sig (Elt F) Λ₀ .tc) α} :
    buf c cc0_scratch3 f ⊢ iprop((buf c cc0_scratch3 f -∗ runs c (k f) Q)
      -∗ runs c (.op (.load sbM (Rect.unit (s := S512x1024) ![0, 0] S512x1024.size i).toLoadRect hl) k) Q) := by
  have h := wp_load (Γ := .empty) (defs := defs₀ (F := F)) 𝒱₀ (c : Thread nD τ) none Set.univ (m := sbM) (r := (Rect.unit (s := S512x1024) ![0, 0] S512x1024.size i).toLoadRect)
    (hl := hl) (k := k) (Q := Q) (q := fullShare) (f := f) (S := Finset.univ) (Finset.subset_univ _)
  rw [show sbM.view.readAt (Elt F) (Rect.unit (s := S512x1024) ![0, 0] S512x1024.size i).toLoadRect f = f from
    Memref.readAt_unit_zero (Elt F) cc0_scratch3 zero2 _ f] at h
  exact h
/-- A store over the whole send buffer leaves the stored value there. -/
theorem sb_fill (c : Dev nD) {f : (cc0_scratch3 : Ref sig .tc).ty.Contents (Elt F)} (w : FVec F S512x1024 .bf16) {i hx hm} {α : Type} {Q : α → sProp 𝕄}
    {k : PUnit → Prog (TpuEff nD τ sig (Elt F) Λ₀ .tc) α} :
    buf c cc0_scratch3 f ⊢ iprop((buf c cc0_scratch3 w -∗ runs c (k ⟨⟩) Q)
      -∗ runs c (.op (.store sbM (Rect.unit (s := S512x1024) ![0, 0] S512x1024.size i) w Finset.univ hx hm) k) Q) := by
  have h := wp_store (Γ := .empty) (defs := defs₀ (F := F)) 𝒱₀ (c : Thread nD τ) none Set.univ (m := sbM) (r := Rect.unit (s := S512x1024) ![0, 0] S512x1024.size i)
    (w := w) (Mk := Finset.univ) (hx := hx) (hm := hm) (k := k) (Q := Q) (f := f) (S := Finset.univ) (Finset.subset_univ _)
  rw [show (sbM.access (Rect.unit (s := S512x1024) ![0, 0] S512x1024.size i) : View sig .tc _ _ _).write (Elt F) f w Finset.univ = w from
    Memref.write_access_unit_zero_univ (Elt F) cc0_scratch3 zero2 _ f w] at h
  exact h
/-- The send buffer of the second. -/
theorem agb_load (c : Dev nD) {f : (cc0_scratch4 : Ref sig .tc).ty.Contents (Elt F)} {i hl} {α : Type} {Q : α → sProp 𝕄}
    {k : Vec F S32x1024 .bf16 → Prog (TpuEff nD τ sig (Elt F) Λ₀ .tc) α} :
    buf c cc0_scratch4 f ⊢ iprop((buf c cc0_scratch4 f -∗ runs c (k f) Q)
      -∗ runs c (.op (.load agbM (Rect.unit (s := S32x1024) ![0, 0] S32x1024.size i).toLoadRect hl) k) Q) := by
  have h := wp_load (Γ := .empty) (defs := defs₀ (F := F)) 𝒱₀ (c : Thread nD τ) none Set.univ (m := agbM) (r := (Rect.unit (s := S32x1024) ![0, 0] S32x1024.size i).toLoadRect)
    (hl := hl) (k := k) (Q := Q) (q := fullShare) (f := f) (S := Finset.univ) (Finset.subset_univ _)
  rw [show agbM.view.readAt (Elt F) (Rect.unit (s := S32x1024) ![0, 0] S32x1024.size i).toLoadRect f = f from
    Memref.readAt_unit_zero (Elt F) cc0_scratch4 zero2 _ f] at h
  exact h
/-- A store over the whole buffer of the finished chunk leaves the stored value there. -/
theorem agb_fill (c : Dev nD) {f : (cc0_scratch4 : Ref sig .tc).ty.Contents (Elt F)} (w : FVec F S32x1024 .bf16) {i hx hm} {α : Type} {Q : α → sProp 𝕄}
    {k : PUnit → Prog (TpuEff nD τ sig (Elt F) Λ₀ .tc) α} :
    buf c cc0_scratch4 f ⊢ iprop((buf c cc0_scratch4 w -∗ runs c (k ⟨⟩) Q)
      -∗ runs c (.op (.store agbM (Rect.unit (s := S32x1024) ![0, 0] S32x1024.size i) w Finset.univ hx hm) k) Q) := by
  have h := wp_store (Γ := .empty) (defs := defs₀ (F := F)) 𝒱₀ (c : Thread nD τ) none Set.univ (m := agbM) (r := Rect.unit (s := S32x1024) ![0, 0] S32x1024.size i)
    (w := w) (Mk := Finset.univ) (hx := hx) (hm := hm) (k := k) (Q := Q) (f := f) (S := Finset.univ) (Finset.subset_univ _)
  rw [show (agbM.access (Rect.unit (s := S32x1024) ![0, 0] S32x1024.size i) : View sig .tc _ _ _).write (Elt F) f w Finset.univ = w from
    Memref.write_access_unit_zero_univ (Elt F) cc0_scratch4 zero2 _ f w] at h
  exact h

end Cert.AllPairs

end
-- ==== Proof.Split.lean ====
/-
  The buffers cut into the blocks the transfers move, and put together again.
-/
module

public import proofs.«01_k».proof.Proof.Blocks

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## All devices: one, and the others in the order it takes them -/

/-- A product over all devices is the device's own factor and those of the fifteen steps up. -/
theorem ring_up (c : Dev nD) (Φ : Dev nD → sProp 𝕄) : bigSep Finset.univ Φ = iprop(Φ c ∗ chain (fun r => Φ (up c r)) all) := by
  have h : bigSep Finset.univ Φ = iprop(Φ c ∗ bigSep (Finset.univ.erase c) Φ) := bigSep_univ_split c
  rw [h, ← map_up c, bigSep_map, chain_all]; rfl
/-- A product over all devices is the device's own factor and those of the fifteen steps down. -/
theorem ring_dn (c : Dev nD) (Φ : Dev nD → sProp 𝕄) : bigSep Finset.univ Φ = iprop(Φ c ∗ chain (fun r => Φ (dn c r)) all) := by
  have h : bigSep Finset.univ Φ = iprop(Φ c ∗ bigSep (Finset.univ.erase c) Φ) := bigSep_univ_split c
  rw [h, ← map_dn c, bigSep_map, chain_all]; rfl

/-- A chain is carried along entry by entry. -/
theorem chain_mono {Φ Ψ : Fin 15 → sProp 𝕄} (h : ∀ r, Φ r ⊢ Ψ r) : chain Φ all ⊢ chain Ψ all := by
  rw [chain_all, chain_all]; exact bigSep_mono fun r _ => h r
/-- A chain of pairs is a pair of chains. -/
theorem chain_sep (Φ Ψ : Fin 15 → sProp 𝕄) : chain (fun r => iprop(Φ r ∗ Ψ r)) all = iprop(chain Φ all ∗ chain Ψ all) := by
  rw [chain_all, chain_all, chain_all]; exact bigSep_sep' _ _ _
/-- Two rows of items made one. -/
theorem chain_zip {Φ Ψ Θ : Fin 15 → sProp 𝕄} (h : ∀ r, iprop(Φ r ∗ Ψ r) ⊢ Θ r) : iprop(chain Φ all ∗ chain Ψ all) ⊢ chain Θ all := by
  rw [← chain_sep]; exact chain_mono h
/-- A chain whose entries split is two chains. -/
theorem chain_unzip {Φ Ψ Θ : Fin 15 → sProp 𝕄} (h : ∀ r, Θ r ⊢ iprop(Φ r ∗ Ψ r)) : chain Θ all ⊢ iprop(chain Φ all ∗ chain Ψ all) := by
  rw [← chain_sep]; exact chain_mono h

/-! ## Which elements a block has -/

/-- An index is in row `j` of a receive buffer when its first coordinate is `j`. -/
theorem slot_mem (j : Dev nD) (i : S16x32x1024.Idx) : i ∈ (slotR j).set ↔ (i 0).val = j.val := by
  refine Rect.mem_set_unit.trans ⟨fun h => ?_, fun h a => ?_⟩
  · have h0 := h 0
    change j.val ≤ (i 0).val ∧ (i 0).val < j.val + 1 at h0
    omega
  · have h1 : (i 1).val < 32 := (i 1).isLt
    have h2 : (i 2).val < 1024 := (i 2).isLt
    fin_cases a
    · change j.val ≤ (i 0).val ∧ (i 0).val < j.val + 1; omega
    · change 0 ≤ (i 1).val ∧ (i 1).val < 0 + 32; omega
    · change 0 ≤ (i 2).val ∧ (i 2).val < 0 + 1024; omega
/-- An index is in chunk `j` when its row, over 32, is `j`. -/
theorem chunk_mem (j : Dev nD) (i : S512x1024.Idx) : i ∈ (chunkR j).set ↔ (i 0).val / 32 = j.val := by
  refine Rect.mem_set_unit.trans ⟨fun h => ?_, fun h a => ?_⟩
  · have h0 := h 0
    change 32 * j.val ≤ (i 0).val ∧ (i 0).val < 32 * j.val + 32 at h0
    omega
  · have h1 : (i 1).val < 1024 := (i 1).isLt
    fin_cases a
    · change 32 * j.val ≤ (i 0).val ∧ (i 0).val < 32 * j.val + 32; omega
    · change 0 ≤ (i 1).val ∧ (i 1).val < 0 + 1024; omega
/-- An index is in slot `j` when its first coordinate is `j`. -/
theorem kvslot_mem (j : Fin 2) (i : S2x2048x128.Idx) : i ∈ (kvslotR j).set ↔ (i 0).val = j.val := by
  refine Rect.mem_set_unit.trans ⟨fun h => ?_, fun h a => ?_⟩
  · have h0 := h 0
    change j.val ≤ (i 0).val ∧ (i 0).val < j.val + 1 at h0
    omega
  · have h1 : (i 1).val < 2048 := (i 1).isLt
    have h2 : (i 2).val < 128 := (i 2).isLt
    fin_cases a
    · change j.val ≤ (i 0).val ∧ (i 0).val < j.val + 1; omega
    · change 0 ≤ (i 1).val ∧ (i 1).val < 0 + 2048; omega
    · change 0 ≤ (i 2).val ∧ (i 2).val < 0 + 128; omega

section Cover
variable {T : Type} [Fintype T] [DecidableEq T] {ℓ : Loc nD τ sig}

/-- A buffer is its blocks, where every element is in the block `g` names and in no other. -/
theorem cut {q : PosShare TreeShare} (f : Buf (Elt F) ℓ) (B : T → Finset (Idx ℓ)) (g : Idx ℓ → T) (h : ∀ t i, i ∈ B t ↔ g i = t) :
    (ℓ ↦{q} f : sProp 𝕄) = bigSep Finset.univ fun t => ℓ ↦[B t]{q} f := by
  rw [← pointsTo_biUnion Finset.univ B (fun t _ t' _ hne => Finset.disjoint_left.mpr fun i hi hi' => hne (((h t i).mp hi).symm.trans ((h t' i).mp hi')))]
  rw [show Finset.univ.biUnion B = Finset.univ from Finset.eq_univ_of_forall fun i => Finset.mem_biUnion.mpr ⟨g i, Finset.mem_univ _, (h _ i).mpr rfl⟩]

/-- A buffer is cut into rooms, each with some contents. -/
theorem cut_rooms (f : Buf (Elt F) ℓ) (B : T → Finset (Idx ℓ)) (g : Idx ℓ → T) (h : ∀ t i, i ∈ B t ↔ g i = t) :
    (ℓ ↦{fullShare} f : sProp 𝕄) ⊢ bigSep Finset.univ fun t => iprop(∃ f, ℓ ↦[B t]{fullShare} f) := by
  rw [cut f B g h]
  refine bigSep_mono fun t _ => ?_
  show (ℓ ↦[B t]{fullShare} f : sProp 𝕄) ⊢ iprop(∃ f, ℓ ↦[B t]{fullShare} f)
  iintro H; iexists f; iexact H
/-- Rooms that cover a buffer are joined to the buffer with some contents. -/
theorem join_rooms (t₀ : T) (B : T → Finset (Idx ℓ)) (g : Idx ℓ → T) (h : ∀ t i, i ∈ B t ↔ g i = t) :
    (bigSep Finset.univ fun t => iprop(∃ f, ℓ ↦[B t]{fullShare} f)) ⊢ (iprop(∃ f, ℓ ↦{fullShare} f) : sProp 𝕄) := by
  classical
  have h1 : (bigSep Finset.univ fun t => (iprop(∃ f, ℓ ↦[B t]{fullShare} f) : sProp 𝕄)) ⊢ iprop(∃ fs : T → Buf (Elt F) ℓ, bigSep Finset.univ fun t => ℓ ↦[B t]{fullShare} fs t) :=
    BI.bigSep_exists_pi Finset.univ (fun t (f : Buf (Elt F) ℓ) => (ℓ ↦[B t]{fullShare} f : sProp 𝕄))
  refine h1.trans ?_
  iintro ⟨%fs, H⟩
  ihave H := (pointsTo_biUnion_join Finset.univ B fs (fs t₀) (fun t _ t' _ hne => Finset.disjoint_left.mpr fun i hi hi' => hne (((h t i).mp hi).symm.trans ((h t' i).mp hi')))) $$ H
  icases H with ⟨%f, -, H⟩
  iexists f
  iapply (Entails.of_eq (show (ℓ ↦[Finset.univ.biUnion B]{fullShare} f : sProp 𝕄) = (ℓ ↦{fullShare} f) from by
    rw [show Finset.univ.biUnion B = Finset.univ from Finset.eq_univ_of_forall fun i => Finset.mem_biUnion.mpr ⟨g i, Finset.mem_univ _, (h _ i).mpr rfl⟩]))
  iexact H
end Cover

/-- Holding a block is having its room. -/
theorem hold_room (c : Dev nD) {s : Shape} {e : EltTy} (M : Memref sig .tc .vmem s e) (X : s.Idx → Elt F e) : hold c M X ⊢ room c M := by
  unfold hold room; iintro ⟨%f, -, H⟩; iexists f; iexact H

/-! ## The landing buffers -/

/-- A row's points are those of its rectangle. -/
theorem slot_set (b : Ref sig .tc) (M : Memref sig .tc .vmem S16x32x1024 .bf16) (j : Dev nD) : (slot M j).view.set = (slotR j).set.map M.view.emb :=
  (View.set_reshape _ _).trans (View.set_slice _ _)

/-- The first receive buffer is cut into sixteen rows. -/
theorem rs_cut (c : Dev nD) (f : Buf (Elt F) ((c : Thread nD τ).loc cc0_scratch5)) :
    buf c cc0_scratch5 f ⊢ bigSep Finset.univ fun j => room (F := F) c (slot rsM j) :=
  cut_rooms f (fun j : Dev nD => (slot rsM j).view.set) (fun i : S16x32x1024.Idx => i 0) fun j i => by
    rw [show (slot rsM j).view.set = (slotR j).set from (View.set_reshape _ _).trans (View.set_slice_whole _ _)]
    exact (slot_mem j i).trans Fin.ext_iff.symm
/-- The first receive buffer is joined from its sixteen rows. -/
theorem rs_join (c : Dev nD) : (bigSep Finset.univ fun j => room (F := F) c (slot rsM j)) ⊢ iprop(∃ f, buf (F := F) c cc0_scratch5 f) :=
  join_rooms (ℓ := (c : Thread nD τ).loc cc0_scratch5) 0 (fun j : Dev nD => (slot rsM j).view.set) (fun i : S16x32x1024.Idx => i 0) fun j i => by
    rw [show (slot rsM j).view.set = (slotR j).set from (View.set_reshape _ _).trans (View.set_slice_whole _ _)]
    exact (slot_mem j i).trans Fin.ext_iff.symm
/-- The second receive buffer is cut into sixteen rows. -/
theorem ag_cut (c : Dev nD) (f : Buf (Elt F) ((c : Thread nD τ).loc cc0_scratch6)) :
    buf c cc0_scratch6 f ⊢ bigSep Finset.univ fun j => room (F := F) c (slot agM j) :=
  cut_rooms f (fun j : Dev nD => (slot agM j).view.set) (fun i : S16x32x1024.Idx => i 0) fun j i => by
    rw [show (slot agM j).view.set = (slotR j).set from (View.set_reshape _ _).trans (View.set_slice_whole _ _)]
    exact (slot_mem j i).trans Fin.ext_iff.symm
/-- The second receive buffer is joined from its sixteen rows. -/
theorem ag_join (c : Dev nD) : (bigSep Finset.univ fun j => room (F := F) c (slot agM j)) ⊢ iprop(∃ f, buf (F := F) c cc0_scratch6 f) :=
  join_rooms (ℓ := (c : Thread nD τ).loc cc0_scratch6) 0 (fun j : Dev nD => (slot agM j).view.set) (fun i : S16x32x1024.Idx => i 0) fun j i => by
    rw [show (slot agM j).view.set = (slotR j).set from (View.set_reshape _ _).trans (View.set_slice_whole _ _)]
    exact (slot_mem j i).trans Fin.ext_iff.symm

/-! ## The buffers of the heads -/

/-- The key buffer is cut into two slots. -/
theorem k_cut (c : Dev nD) (f : Buf (Elt F) ((c : Thread nD τ).loc cc0_scratch0)) :
    buf c cc0_scratch0 f ⊢ iprop(room (F := F) c (kvslot kM 0) ∗ room (F := F) c (kvslot kM 1)) := by
  refine BIBase.Entails.trans ?_ (Entails.of_eq (bigSep_univ_two fun j => room (F := F) c (kvslot kM j)))
  exact cut_rooms f (fun j : Fin 2 => (kvslot kM j).view.set) (fun i : S2x2048x128.Idx => i 0) fun j i => by
    rw [show (kvslot kM j).view.set = (kvslotR j).set from (View.set_reshape _ _).trans (View.set_slice_whole _ _)]
    exact (kvslot_mem j i).trans Fin.ext_iff.symm
/-- The key buffer is joined from its two slots. -/
theorem k_join (c : Dev nD) : iprop(room (F := F) c (kvslot kM 0) ∗ room (F := F) c (kvslot kM 1)) ⊢ iprop(∃ f, buf (F := F) c cc0_scratch0 f) := by
  refine (Entails.of_eq (bigSep_univ_two fun j => room (F := F) c (kvslot kM j)).symm).trans ?_
  exact join_rooms (ℓ := (c : Thread nD τ).loc cc0_scratch0) 0 (fun j : Fin 2 => (kvslot kM j).view.set) (fun i : S2x2048x128.Idx => i 0) fun j i => by
    rw [show (kvslot kM j).view.set = (kvslotR j).set from (View.set_reshape _ _).trans (View.set_slice_whole _ _)]
    exact (kvslot_mem j i).trans Fin.ext_iff.symm
/-- The value buffer is cut into two slots. -/
theorem v_cut (c : Dev nD) (f : Buf (Elt F) ((c : Thread nD τ).loc cc0_scratch1)) :
    buf c cc0_scratch1 f ⊢ iprop(room (F := F) c (kvslot vM 0) ∗ room (F := F) c (kvslot vM 1)) := by
  refine BIBase.Entails.trans ?_ (Entails.of_eq (bigSep_univ_two fun j => room (F := F) c (kvslot vM j)))
  exact cut_rooms f (fun j : Fin 2 => (kvslot vM j).view.set) (fun i : S2x2048x128.Idx => i 0) fun j i => by
    rw [show (kvslot vM j).view.set = (kvslotR j).set from (View.set_reshape _ _).trans (View.set_slice_whole _ _)]
    exact (kvslot_mem j i).trans Fin.ext_iff.symm
/-- The value buffer is joined from its two slots. -/
theorem v_join (c : Dev nD) : iprop(room (F := F) c (kvslot vM 0) ∗ room (F := F) c (kvslot vM 1)) ⊢ iprop(∃ f, buf (F := F) c cc0_scratch1 f) := by
  refine (Entails.of_eq (bigSep_univ_two fun j => room (F := F) c (kvslot vM j)).symm).trans ?_
  exact join_rooms (ℓ := (c : Thread nD τ).loc cc0_scratch1) 0 (fun j : Fin 2 => (kvslot vM j).view.set) (fun i : S2x2048x128.Idx => i 0) fun j i => by
    rw [show (kvslot vM j).view.set = (kvslotR j).set from (View.set_reshape _ _).trans (View.set_slice_whole _ _)]
    exact (kvslot_mem j i).trans Fin.ext_iff.symm

/-! ## The send buffers -/

/-- The first exchange's, filled, is the rows of each device. -/
theorem sb_cut (c : Dev nD) : buf c cc0_scratch3 (sbC m c) = bigSep Finset.univ fun j => rsSPay m c j :=
  cut (ℓ := (c : Thread nD τ).loc cc0_scratch3) (sbC m c) (fun j : Dev nD => (chunk j).view.set) (fun i : S512x1024.Idx => (⟨(i 0).val / 32, by have : (i 0).val < 512 := (i 0).isLt; show _ < 16; omega⟩ : Dev nD)) fun j i => by
    rw [show (chunk j).view.set = (chunkR j).set from View.set_slice_whole _ _]
    exact (chunk_mem j i).trans ⟨fun h => Fin.ext h, fun h => congrArg Fin.val h⟩

/-- The finished chunk's buffer in full is the share that no send has taken from. -/
theorem agb_full (c : Dev nD) : buf c cc0_scratch4 (agC m c) = agPts m c (restS 0) := by
  unfold buf agPts
  rw [show agbM.view.set = Finset.univ from View.set_whole _]; rfl

/-- A share of the finished chunk that a send gave back is joined to the rest. -/
theorem agPts_join (c : Dev nD) (n : ℕ) : iprop(agPts m c (pieceS n) ∗ agPts m c (restS (n + 1))) ⊢ agPts m c (restS n) := by
  unfold agPts
  exact (pointsTo_share (PosShare.mem_left_op_right (restS n))).2
/-- The shares of the second exchange's send buffer, joined again. -/
theorem ag_share (c : Dev nD) : ∀ n, n ≤ 15 → iprop(agPts m c (restS n) ∗ chain (fun r : Fin 15 => agPts m c (pieceS r.val)) (all.take n)) ⊢ agPts m c (restS 0)
  | 0, _ => by
    iintro ⟨H, -⟩; iexact H
  | n + 1, h => by
    have e := take_all ⟨n, h⟩
    dsimp only at e
    rw [e]
    iintro ⟨H, HS⟩
    ihave HS := (chain_unsnoc (fun r : Fin 15 => agPts m c (pieceS r.val)) ⟨n, h⟩ (all.take n)) $$ HS
    icases HS with ⟨HS, Hr⟩
    iapply (ag_share c n (by omega))
    isplitr [HS]
    · iapply (agPts_join m c n)
      isplitl [Hr]
      · iexact Hr
      iexact H
    iexact HS

/-! ## The keys and the values -/

/-- What of the keys and values no copy of device `c`'s reads. -/
def kvRest (c : Dev nD) (b : Fin 2) : sProp 𝕄 :=
  match b with
  | 0 => iprop(((c : Thread nD τ).loc main_arg2 ↦[Finset.univ \ (head kA c 0).view.set]{fullShare.left} m ((c : Thread nD τ).loc main_arg2))
      ∗ ((c : Thread nD τ).loc main_arg2 ↦[Finset.univ \ (head kA c 1).view.set]{fullShare.right} m ((c : Thread nD τ).loc main_arg2)))
  | 1 => iprop(((c : Thread nD τ).loc main_arg3 ↦[Finset.univ \ (head vA c 0).view.set]{fullShare.left} m ((c : Thread nD τ).loc main_arg3))
      ∗ ((c : Thread nD τ).loc main_arg3 ↦[Finset.univ \ (head vA c 1).view.set]{fullShare.right} m ((c : Thread nD τ).loc main_arg3)))

/-- An array is split into two sets of points, one in each half share, and what is left over. -/
theorem two_parts {ℓ : Loc nD τ sig} (f : Buf (Elt F) ℓ) (I J : Finset (Idx ℓ)) :
    (ℓ ↦{fullShare} f : sProp 𝕄) ⊣⊢ iprop(((ℓ ↦[I]{fullShare.left} f) ∗ (ℓ ↦[J]{fullShare.right} f)) ∗ (ℓ ↦[Finset.univ \ I]{fullShare.left} f) ∗ (ℓ ↦[Finset.univ \ J]{fullShare.right} f)) := by
  have hs := pointsTo_share (Ix := Unit) (Name := ℕ) (U := UU) (Lvl := ℕ) (ℓ := ℓ) (I := Finset.univ) (f := f) (PosShare.mem_left_op_right fullShare)
  have h1 := pointsTo_split_subset (Ix := Unit) (Name := ℕ) (U := UU) (Lvl := ℕ) (ℓ := ℓ) (q := fullShare.left) (f := f) (Finset.subset_univ I)
  have h2 := pointsTo_split_subset (Ix := Unit) (Name := ℕ) (U := UU) (Lvl := ℕ) (ℓ := ℓ) (q := fullShare.right) (f := f) (Finset.subset_univ J)
  constructor
  · iintro H
    ihave H := hs.1 $$ H
    icases H with ⟨Hl, Hr⟩
    ihave Hl := h1.1 $$ Hl
    ihave Hr := h2.1 $$ Hr
    icases Hl with ⟨Hl, Hl'⟩
    icases Hr with ⟨Hr, Hr'⟩
    isplitl [Hl Hr]
    · isplitl [Hl]; · iexact Hl
      iexact Hr
    isplitl [Hl']; · iexact Hl'
    iexact Hr'
  · iintro ⟨⟨Hl, Hr⟩, Hl', Hr'⟩
    iapply hs.2
    isplitl [Hl Hl']
    · iapply h1.2; isplitl [Hl]; · iexact Hl
      iexact Hl'
    · iapply h2.2; isplitl [Hr]; · iexact Hr
      iexact Hr'

/-- The keys are split into the two heads that are copied and the rest. -/
theorem kA_parts (c : Dev nD) : ((c : Thread nD τ).loc main_arg2 ↦{fullShare} m ((c : Thread nD τ).loc main_arg2) : sProp 𝕄)
    ⊣⊢ iprop((srcPts m c 0 0 ∗ srcPts m c 0 1) ∗ kvRest m c 0) :=
  two_parts (m ((c : Thread nD τ).loc main_arg2)) (head kA c 0).view.set (head kA c 1).view.set
/-- The values are split into the two heads that are copied and the rest. -/
theorem vA_parts (c : Dev nD) : ((c : Thread nD τ).loc main_arg3 ↦{fullShare} m ((c : Thread nD τ).loc main_arg3) : sProp 𝕄)
    ⊣⊢ iprop((srcPts m c 1 0 ∗ srcPts m c 1 1) ∗ kvRest m c 1) :=
  two_parts (m ((c : Thread nD τ).loc main_arg3)) (head vA c 0).view.set (head vA c 1).view.set

end Cert.AllPairs

end
-- ==== Proof.Parts.lean ====
/-
  The kernel's body, part by part, up to the filled send buffer of the first exchange.
-/
module

public import proofs.«01_k».proof.Proof.Split

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- What takes the kernel's seventeen buffers and semaphore arrays; -/
abbrev Taking (β : Type 1) : Type 1 :=
  (arg0 : Memref sig .tc .vmem S1x512x1024 .f32) → (harg0 : arg0.IsWhole) → (arg1 : Memref sig .tc .vmem S1024x1024 .f32) → (harg1 : arg1.IsWhole) → (arg2 : Memref sig .tc .vmem S1024x1024 .f32) → (harg2 : arg2.IsWhole) → (arg3 : Memref sig .tc .hbm S1x2048x32x128 .f32) → (harg3 : arg3.IsWhole) → (arg4 : Memref sig .tc .hbm S1x2048x32x128 .f32) → (harg4 : arg4.IsWhole) → (arg5 : Memref sig .tc .vmem S512x1024 .f32) → (harg5 : arg5.IsWhole) → (arg6 : Memref sig .tc .vmem S2x2048x128 .f32) → (harg6 : arg6.IsWhole) → (arg7 : Memref sig .tc .vmem S2x2048x128 .f32) → (harg7 : arg7.IsWhole) → (arg8 : DmaSems sig S4) → (arg9 : Memref sig .tc .vmem S512x1024 .bf16) → (harg9 : arg9.IsWhole) → (arg10 : Memref sig .tc .vmem S32x1024 .bf16) → (harg10 : arg10.IsWhole) → (arg11 : Memref sig .tc .vmem S16x32x1024 .bf16) → (harg11 : arg11.IsWhole) → (arg12 : Memref sig .tc .vmem S16x32x1024 .bf16) → (harg12 : arg12.IsWhole) → (arg13 : DmaSems sig S16) → (arg14 : DmaSems sig S16) → (arg15 : DmaSems sig S16) → (arg16 : DmaSems sig S16) → β
/-- given this kernel's. -/
abbrev given {β : Type 1} (P : Taking β) : β :=
  P xM (Memref.isWhole_whole _) wqM (Memref.isWhole_whole _) woM (Memref.isWhole_whole _) kA (Memref.isWhole_whole _) vA (Memref.isWhole_whole _) outM (Memref.isWhole_whole _) kM (Memref.isWhole_whole _) vM (Memref.isWhole_whole _) cc0_scratch2 sbM (Memref.isWhole_whole _) agbM (Memref.isWhole_whole _) rsM (Memref.isWhole_whole _) agM (Memref.isWhole_whole _) cc0_scratch7 cc0_scratch8 cc0_scratch9 cc0_scratch10

/-- A program that returns has run, if its value is as wanted. -/
theorem runs_ret (c : Dev nD) {α : Type} {a : α} {Q : α → sProp 𝕄} : Q a ⊢ runs c (.ret a) Q := by
  unfold runs; rw [wp_ret]; iintro H; imodintro; iexact H

/-! ## The barrier's signals -/

/-- After the fifteen signals, only the exchanges' debts are left. -/
theorem sigSt_end (c : Dev nD) : sigSt m K c 15 ⊢ debts c (O₁ c) := by
  unfold sigSt
  rw [show all.drop 15 = [] from rfl, show dueBar c [] = 0 from rfl, add_zero]
  iintro ⟨-, H, -⟩; iexact H

/-- Part 1: the first five barrier signals. -/
theorem part1 (c : Dev nD) {Q : (Σ' (d0 : Dev nD) (v2 : BitVec 32) (v3 : Sems sig S_) (v24 : BitVec 32), BitVec 32) → sProp 𝕄} :
    sigSt m K c 0 ⊢ iprop((∀ v2 v24 w, sigSt m K c 5 -∗ Q ⟨c, v2, SemArray.scalar (sig.barrier 0 rfl), v24, w⟩) -∗ runs c (given k0_part1) Q) := by
  rw [given, k0_part1_eq_skeleton]
  unfold k0_part1_skel
  simp only [semSignalWord, Prog.lift, Prog.bind_op, Prog.bind_ret, Prog.pure_eq_ret, wp_deviceId]
  iintro H Hk
  iapply (sig_step m K c ⟨0, by decide⟩ _ (Fin.ext (k0_dev1_eq c))) $$ H; iintro H
  iapply (sig_step m K c ⟨1, by decide⟩ _ (Fin.ext (k0_dev2_eq c))) $$ H; iintro H
  iapply (sig_step m K c ⟨2, by decide⟩ _ (Fin.ext (k0_dev3_eq c))) $$ H; iintro H
  iapply (sig_step m K c ⟨3, by decide⟩ _ (Fin.ext (k0_dev4_eq c))) $$ H; iintro H
  iapply (sig_step m K c ⟨4, by decide⟩ _ (Fin.ext (k0_dev5_eq c))) $$ H; iintro H
  iapply (runs_ret c); iapply Hk; iexact H

/-- Part 2: barrier signals up to the eleventh. -/
theorem part2 (c : Dev nD) (v2 v24 w : BitVec 32) {Q : (Σ' (v48 : BitVec 32), BitVec 32) → sProp 𝕄} :
    sigSt m K c 5 ⊢ iprop((∀ v48 w, sigSt m K c 11 -∗ Q ⟨v48, w⟩)
      -∗ runs c (given k0_part2 c v2 (SemArray.scalar (sig.barrier 0 rfl)) v24 w) Q) := by
  rw [given, k0_part2_eq_skeleton]
  unfold k0_part2_skel
  simp only [semSignalWord, Prog.lift, Prog.bind_op, Prog.bind_ret, Prog.pure_eq_ret]
  iintro H Hk
  iapply (sig_step m K c ⟨5, by decide⟩ _ (Fin.ext (k0_dev6_eq c))) $$ H; iintro H
  iapply (sig_step m K c ⟨6, by decide⟩ _ (Fin.ext (k0_dev7_eq c))) $$ H; iintro H
  iapply (sig_step m K c ⟨7, by decide⟩ _ (Fin.ext (k0_dev8_eq c))) $$ H; iintro H
  iapply (sig_step m K c ⟨8, by decide⟩ _ (Fin.ext (k0_dev9_eq c))) $$ H; iintro H
  iapply (sig_step m K c ⟨9, by decide⟩ _ (Fin.ext (k0_dev10_eq c))) $$ H; iintro H
  iapply (sig_step m K c ⟨10, by decide⟩ _ (Fin.ext (k0_dev11_eq c))) $$ H; iintro H
  iapply (runs_ret c); iapply Hk; iexact H

/-! ## The heads -/

/-- What head copy `i` takes: the right to write its entry, and its part of the source. -/
def kvIn (c : Dev nD) : Fin 4 → sProp 𝕄
  | 0 => iprop(room c (kvslot kM 0) ∗ srcPts m c 0 0)
  | 1 => iprop(room c (kvslot vM 0) ∗ srcPts m c 1 0)
  | 2 => iprop(room c (kvslot kM 1) ∗ srcPts m c 0 1)
  | 3 => iprop(room c (kvslot vM 1) ∗ srcPts m c 1 1)
/-- Before copy `i`; after it; -/
def kvBegin (c : Dev nD) (i : Fin 4) : sProp 𝕄 := iprop(dutyTok ER (kvC c i) 0 0 ∗ kvIn m c i)
def kvSent (c : Dev nD) (i : Fin 4) : sProp 𝕄 := cred (tallyAt (kvC c i) () NK)
/-- what it hands over, waited for. -/
def kvDone (c : Dev nD) (i : Fin 4) : sProp 𝕄 := iprop(kvPay m c i ∗ semVal (kvC c i) 0)

/-- The records are at hand throughout the signals. -/
theorem ctx_of_sigSt (c : Dev nD) (n : ℕ) : sigSt m K c n ⊢ ctx m K := by unfold sigSt; iintro ⟨#H, -, -⟩; iexact H

/-- Part 3: the rest of the barrier signals, and the start of the first head copy. -/
theorem part3 (c : Dev nD) (v2 v48 w : BitVec 32) {Q : PUnit → sProp 𝕄} :
    iprop(sigSt m K c 11 ∗ ctx m K ∗ kvBegin m c 0) ⊢ iprop(((debts c (O₁ c) ∗ kvSent c 0) -∗ Q ⟨⟩)
      -∗ runs c (given k0_part3 c v2 (SemArray.scalar (sig.barrier 0 rfl)) v48 w) Q) := by
  rw [given, k0_part3_eq_skeleton]
  unfold k0_part3_skel
  simp only [semSignalWord, Prog.lift, Prog.bind_op, Prog.bind_ret, Prog.pure_eq_ret]
  unfold kvBegin
  iintro ⟨H, #Hx, Ht, Hi⟩ Hk
  iapply (sig_step m K c ⟨11, by decide⟩ _ (Fin.ext (k0_dev12_eq c))) $$ H; iintro H
  iapply (sig_step m K c ⟨12, by decide⟩ _ (Fin.ext (k0_dev13_eq c))) $$ H; iintro H
  iapply (sig_step m K c ⟨13, by decide⟩ _ (Fin.ext (k0_dev14_eq c))) $$ H; iintro H
  iapply (sig_step m K c ⟨14, by decide⟩ _ (Fin.ext (k0_dev15_eq c))) $$ H; iintro H
  ihave Hi := (Entails.of_eq (show kvIn m c 0 = iprop(room c (kvslot kM 0) ∗ ((head kA c 0).view.loc (c : Thread nD τ) ↦[(head kA c 0).view.set]{fullShare.left} m ((c : Thread nD τ).loc main_arg2))) from rfl)) $$ Hi
  icases Hi with ⟨Hr, Hs⟩
  iapply (kv_copy m K c 0 0 kA kM (k0_off1_eq c 0) rfl rfl fullShare.left (m ((c : Thread nD τ).loc main_arg2)) rfl BIBase.Entails.refl) $$ [Ht Hr Hs]
  · isplitr; · iexact Hx
    isplitl [Ht]; · iexact Ht
    isplitl [Hr]; · iexact Hr
    iexact Hs
  iintro Hc
  iapply (runs_ret c); iapply Hk
  isplitl [H]; · iapply (sigSt_end m K c); iexact H
  unfold kvSent; iexact Hc

/-- Part 4: the start of the other three head copies, and the query product. -/
theorem part4 (c : Dev nD) (v2 : BitVec 32) {Q : FVec F S512x1024 .f32 → sProp 𝕄} :
    iprop(ctx m K ∗ (kvBegin m c 1 ∗ kvBegin m c 2 ∗ kvBegin m c 3) ∗ buf c cc0_stg0_0 (xC m c) ∗ buf c cc0_stg1_0 (wqC m c))
      ⊢ iprop((((kvSent c 1 ∗ kvSent c 2 ∗ kvSent c 3) ∗ buf c cc0_stg0_0 (xC m c) ∗ buf c cc0_stg1_0 (wqC m c)) -∗ Q (qC m c))
      -∗ runs c (given k0_part4 c v2) Q) := by
  rw [given, k0_part4_eq_skeleton]
  unfold k0_part4_skel qC
  simp only [Prog.lift, Prog.bind_op, Prog.bind_ret, Prog.pure_eq_ret]
  unfold kvBegin
  iintro ⟨#Hx, ⟨⟨Ht1, Hi1⟩, ⟨Ht2, Hi2⟩, ⟨Ht3, Hi3⟩⟩, Hbx, Hbw⟩ Hk
  ihave Hi1 := (Entails.of_eq (show kvIn m c 1 = iprop(room c (kvslot vM 0) ∗ ((head vA c 0).view.loc (c : Thread nD τ) ↦[(head vA c 0).view.set]{fullShare.left} m ((c : Thread nD τ).loc main_arg3))) from rfl)) $$ Hi1
  icases Hi1 with ⟨Hr, Hs⟩
  iapply (kv_copy m K c 1 0 vA vM (k0_off1_eq c 0) rfl rfl fullShare.left (m ((c : Thread nD τ).loc main_arg3)) rfl BIBase.Entails.refl) $$ [Ht1 Hr Hs]
  · isplitr; · iexact Hx
    isplitl [Ht1]; · iexact Ht1
    isplitl [Hr]; · iexact Hr
    iexact Hs
  iintro Hc1
  ihave Hi2 := (Entails.of_eq (show kvIn m c 2 = iprop(room c (kvslot kM 1) ∗ ((head kA c 1).view.loc (c : Thread nD τ) ↦[(head kA c 1).view.set]{fullShare.right} m ((c : Thread nD τ).loc main_arg2))) from rfl)) $$ Hi2
  icases Hi2 with ⟨Hr, Hs⟩
  iapply (kv_copy m K c 2 1 kA kM (k0_off1_eq c 1) rfl rfl fullShare.right (m ((c : Thread nD τ).loc main_arg2)) rfl BIBase.Entails.refl) $$ [Ht2 Hr Hs]
  · isplitr; · iexact Hx
    isplitl [Ht2]; · iexact Ht2
    isplitl [Hr]; · iexact Hr
    iexact Hs
  iintro Hc2
  ihave Hi3 := (Entails.of_eq (show kvIn m c 3 = iprop(room c (kvslot vM 1) ∗ ((head vA c 1).view.loc (c : Thread nD τ) ↦[(head vA c 1).view.set]{fullShare.right} m ((c : Thread nD τ).loc main_arg3))) from rfl)) $$ Hi3
  icases Hi3 with ⟨Hr, Hs⟩
  iapply (kv_copy m K c 3 1 vA vM (k0_off1_eq c 1) rfl rfl fullShare.right (m ((c : Thread nD τ).loc main_arg3)) rfl BIBase.Entails.refl) $$ [Ht3 Hr Hs]
  · isplitr; · iexact Hx
    isplitl [Ht3]; · iexact Ht3
    isplitl [Hr]; · iexact Hr
    iexact Hs
  iintro Hc3
  iapply (x_load c) $$ Hbx; iintro Hbx
  iapply (wq_load c) $$ Hbw; iintro Hbw
  iapply (runs_ret c); iapply Hk
  isplitl [Hc1 Hc2 Hc3]
  · unfold kvSent
    isplitl [Hc1]; · iexact Hc1
    isplitl [Hc2]; · iexact Hc2
    iexact Hc3
  isplitl [Hbx]; · iexact Hbx
  iexact Hbw

/-- The four heads, in their buffers. -/
def heads (c : Dev nD) : sProp 𝕄 :=
  iprop((hold c (kvslot kM 0) (kX m c 0) ∗ hold c (kvslot kM 1) (kX m c 1)) ∗ hold c (kvslot vM 0) (vX m c 0) ∗ hold c (kvslot vM 1) (vX m c 1))

/-- A load of key head `j` reads it and leaves both heads held. -/
theorem k_load (c : Dev nD) (j : Fin 2) {oS : Fin 3 → ℕ} (hS : oS = ![j.val, 0, 0]) {iS hl}
    {α : Type} {Q : α → sProp 𝕄} {k : Vec F S1x2048x128 .f32 → Prog (TpuEff nD τ sig (Elt F) Λ₀ .tc) α} :
    heads m c ⊢ iprop((heads m c -∗ runs c (k (kvL (kX m c j))) Q)
      -∗ runs c (.op (.load kM (Rect.unit (s := S2x2048x128) oS S1x2048x128.size iS).toLoadRect hl) k) Q) := by
  unfold heads
  iintro ⟨⟨H0, H1⟩, Hv⟩ Hk
  obtain ⟨j, hj⟩ := j
  match j, hj with
  | 0, _ =>
    iapply (load_kv c 0 kM hS (kX m c 0)) $$ H0; iintro H0
    iapply Hk; isplitr [Hv]
    · isplitl [H0]; · iexact H0
      iexact H1
    iexact Hv
  | 1, _ =>
    iapply (load_kv c 1 kM hS (kX m c 1)) $$ H1; iintro H1
    iapply Hk; isplitr [Hv]
    · isplitl [H0]; · iexact H0
      iexact H1
    iexact Hv

/-- A load of value head `j` reads it and leaves both heads held. -/
theorem v_load (c : Dev nD) (j : Fin 2) {oS : Fin 3 → ℕ} (hS : oS = ![j.val, 0, 0]) {iS hl}
    {α : Type} {Q : α → sProp 𝕄} {k : Vec F S1x2048x128 .f32 → Prog (TpuEff nD τ sig (Elt F) Λ₀ .tc) α} :
    heads m c ⊢ iprop((heads m c -∗ runs c (k (kvL (vX m c j))) Q)
      -∗ runs c (.op (.load vM (Rect.unit (s := S2x2048x128) oS S1x2048x128.size iS).toLoadRect hl) k) Q) := by
  unfold heads
  iintro ⟨Hv, H0, H1⟩ Hk
  obtain ⟨j, hj⟩ := j
  match j, hj with
  | 0, _ =>
    iapply (load_kv c 0 vM hS (vX m c 0)) $$ H0; iintro H0
    iapply Hk; isplitl [Hv]; · iexact Hv
    isplitl [H0]; · iexact H0
    iexact H1
  | 1, _ =>
    iapply (load_kv c 1 vM hS (vX m c 1)) $$ H1; iintro H1
    iapply Hk; isplitl [Hv]; · iexact Hv
    isplitl [H0]; · iexact H0
    iexact H1

/-- What the heads' copies borrowed of the sources, and their semaphores at zero. -/
def kvBack (c : Dev nD) : sProp 𝕄 :=
  iprop((srcPts m c 0 0 ∗ srcPts m c 0 1) ∗ (srcPts m c 1 0 ∗ srcPts m c 1 1)
    ∗ semVal (kvC c 0) 0 ∗ semVal (kvC c 1) 0 ∗ semVal (kvC c 2) 0 ∗ semVal (kvC c 3) 0)

/-- A head's copy, sent but not waited for. -/
def kvWait (c : Dev nD) (i : Fin 4) : sProp 𝕄 := iprop(kvSent c i ∗ atPos ER (kvC c i) 0 ∅ 0)

/-- The wait for a head's copy gives the head and its closed semaphore. -/
theorem kv_take (c : Dev nD) (i : Fin 4) {oq : Fin 1 → ℕ} (hq : oq = ![i.val]) {iq : ∀ a, oq a + S1.size a ≤ S4.size a}
    {sp sp' : Space} {s : Shape} {e e' : EltTy} {src : Memref sig .tc sp' s e'} {dst : Memref sig .tc sp s e} (hN : dst.view.dmaCredit = NK)
    {h₁ : src.view.WordExact} {h₂ : dst.view.WordExact}
    {α : Type} {Q : α → sProp 𝕄} {k : PUnit → Prog (TpuEff nD τ sig (Elt F) Λ₀ .tc) α} :
    iprop(ctx m K ∗ debts c (O₁ c) ∗ kvWait c i)
      ⊢ iprop(((debts c (O₁ c) ∗ kvPay m c i ∗ semVal (kvC c i) 0) -∗ runs c (k ⟨⟩) Q)
      -∗ runs c (.op (.waitDma2 ((cc0_scratch2.slice (Rect.unit (s := S4) oq S1.size iq)).squeeze S_ squeezes_S1_S_).sem src dst h₁ h₂) k) Q) := by
  unfold kvWait kvSent
  exact kv_wait m K c i hq ((above_O₁ c).mono (Nat.zero_le _)) hN

/-- Part 5: the waits for the head copies, and the first head's scores. -/
theorem part5 (c : Dev nD) (q : FVec F S512x1024 .f32) {Q : FVec F S512x2048 .f32 → sProp 𝕄} :
    iprop(ctx m K ∗ debts c (O₁ c) ∗ kvWait c 0 ∗ kvWait c 1 ∗ kvWait c 2 ∗ kvWait c 3)
      ⊢ iprop(((debts c (O₁ c) ∗ heads m c ∗ kvBack m c) -∗ Q (k0_pay2 q (kvL (kX m c 0))))
      -∗ runs c (given k0_part5 c q) Q) := by
  rw [given, k0_part5_eq_skeleton]
  unfold k0_part5_skel
  simp only [Prog.lift, Prog.bind_op, Prog.bind_ret, Prog.pure_eq_ret]
  iintro ⟨#Hx, HO, H0, H1, H2, H3⟩ Hk
  iapply (kv_take m K c 0 (dst := kvslot kM 0) rfl rfl) $$ [HO H0]
  · isplitr; · iexact Hx
    isplitl [HO] <;> iassumption
  iintro ⟨HO, Hp0, Hz0⟩
  iapply (kv_take m K c 1 (dst := kvslot vM 0) rfl rfl) $$ [HO H1]
  · isplitr; · iexact Hx
    isplitl [HO] <;> iassumption
  iintro ⟨HO, Hp1, Hz1⟩
  iapply (kv_take m K c 2 (dst := kvslot kM 1) rfl rfl) $$ [HO H2]
  · isplitr; · iexact Hx
    isplitl [HO] <;> iassumption
  iintro ⟨HO, Hp2, Hz2⟩
  iapply (kv_take m K c 3 (dst := kvslot vM 1) rfl rfl) $$ [HO H3]
  · isplitr; · iexact Hx
    isplitl [HO] <;> iassumption
  iintro ⟨HO, Hp3, Hz3⟩
  ihave Hp0 := (Entails.of_eq (show kvPay m c 0 = iprop(hold c (kvslot kM 0) (kX m c 0) ∗ srcPts m c 0 0) from rfl)) $$ Hp0
  ihave Hp1 := (Entails.of_eq (show kvPay m c 1 = iprop(hold c (kvslot vM 0) (vX m c 0) ∗ srcPts m c 1 0) from rfl)) $$ Hp1
  ihave Hp2 := (Entails.of_eq (show kvPay m c 2 = iprop(hold c (kvslot kM 1) (kX m c 1) ∗ srcPts m c 0 1) from rfl)) $$ Hp2
  ihave Hp3 := (Entails.of_eq (show kvPay m c 3 = iprop(hold c (kvslot vM 1) (vX m c 1) ∗ srcPts m c 1 1) from rfl)) $$ Hp3
  icases Hp0 with ⟨Hh0, Hs0⟩
  icases Hp1 with ⟨Hh1, Hs1⟩
  icases Hp2 with ⟨Hh2, Hs2⟩
  icases Hp3 with ⟨Hh3, Hs3⟩
  ihave H := (Entails.of_eq (show iprop((hold c (kvslot kM 0) (kX m c 0) ∗ hold c (kvslot kM 1) (kX m c 1)) ∗ hold c (kvslot vM 0) (vX m c 0) ∗ hold c (kvslot vM 1) (vX m c 1)) = heads m c from rfl)) $$ [Hh0 Hh1 Hh2 Hh3]
  · isplitl [Hh0 Hh2]
    · isplitl [Hh0]; · iexact Hh0
      iexact Hh2
    isplitl [Hh1]; · iexact Hh1
    iexact Hh3
  iapply (k_load m c 0 rfl) $$ H; iintro H
  iapply (runs_ret c); iapply Hk
  isplitl [HO]; · iexact HO
  isplitl [H]; · iexact H
  unfold kvBack
  isplitl [Hs0 Hs2]
  · isplitl [Hs0]; · iexact Hs0
    iexact Hs2
  isplitl [Hs1 Hs3]
  · isplitl [Hs1]; · iexact Hs1
    iexact Hs3
  isplitl [Hz0]; · iexact Hz0
  isplitl [Hz1]; · iexact Hz1
  isplitl [Hz2]; · iexact Hz2
  iexact Hz3

/-- Part 6: attention with query heads 0 and 1, and head 2's scores with their maxima. -/
theorem part6 (c : Dev nD) (q : FVec F S512x1024 .f32) (s : FVec F S512x2048 .f32)
    {Q : (Σ' (v138 : FVec F S512x128 .f32) (v156 : FVec F S512x128 .f32) (v162 : FVec F S512x2048 .f32), FVec F S512x1 .f32) → sProp 𝕄} :
    heads m c ⊢ iprop((heads m c -∗ Q ⟨k0_pay3 s (kvL (vX m c 0)), k0_pay4 q (kvL (kX m c 0)) (kvL (vX m c 0)), k0_pay5 q (kvL (kX m c 0)), k0_pay6 q (kvL (kX m c 0))⟩)
      -∗ runs c (given k0_part6 q s) Q) := by
  rw [given, k0_part6_eq_skeleton]
  unfold k0_part6_skel
  simp only [Prog.lift, Prog.bind_op, Prog.bind_ret, Prog.pure_eq_ret]
  iintro H Hk
  iapply (v_load m c 0 rfl) $$ H; iintro H
  iapply (k_load m c 0 rfl) $$ H; iintro H
  iapply (v_load m c 0 rfl) $$ H; iintro H
  iapply (k_load m c 0 rfl) $$ H; iintro H
  iapply (runs_ret c); iapply Hk; iexact H

/-- Part 7: attention with query heads 2 and 3, and head 4's scores less their maxima. -/
theorem part7 (c : Dev nD) (q : FVec F S512x1024 .f32) (p : FVec F S512x2048 .f32) (l : FVec F S512x1 .f32)
    {Q : (Σ' (v174 : FVec F S512x128 .f32) (v192 : FVec F S512x128 .f32), FVec F S512x2048 .f32) → sProp 𝕄} :
    heads m c ⊢ iprop((heads m c -∗ Q ⟨k0_pay7 p l (kvL (vX m c 0)), k0_pay8 q (kvL (kX m c 0)) (kvL (vX m c 0)), k0_pay9 q (kvL (kX m c 1))⟩)
      -∗ runs c (given k0_part7 q p l) Q) := by
  rw [given, k0_part7_eq_skeleton]
  unfold k0_part7_skel
  simp only [Prog.lift, Prog.bind_op, Prog.bind_ret, Prog.pure_eq_ret]
  iintro H Hk
  iapply (v_load m c 0 rfl) $$ H; iintro H
  iapply (k_load m c 0 rfl) $$ H; iintro H
  iapply (v_load m c 0 rfl) $$ H; iintro H
  iapply (k_load m c 1 rfl) $$ H; iintro H
  iapply (runs_ret c); iapply Hk; iexact H

/-- Part 8: attention with query heads 4 and 5, and head 6's weights. -/
theorem part8 (c : Dev nD) (q : FVec F S512x1024 .f32) (p : FVec F S512x2048 .f32)
    {Q : (Σ' (v210 : FVec F S512x128 .f32) (v228 : FVec F S512x128 .f32), FVec F S512x2048 .f32) → sProp 𝕄} :
    heads m c ⊢ iprop((heads m c -∗ Q ⟨k0_pay10 p (kvL (vX m c 1)), k0_pay11 q (kvL (kX m c 1)) (kvL (vX m c 1)), k0_pay12 q (kvL (kX m c 1))⟩)
      -∗ runs c (given k0_part8 q p) Q) := by
  rw [given, k0_part8_eq_skeleton]
  unfold k0_part8_skel
  simp only [Prog.lift, Prog.bind_op, Prog.bind_ret, Prog.pure_eq_ret]
  iintro H Hk
  iapply (v_load m c 1 rfl) $$ H; iintro H
  iapply (k_load m c 1 rfl) $$ H; iintro H
  iapply (v_load m c 1 rfl) $$ H; iintro H
  iapply (k_load m c 1 rfl) $$ H; iintro H
  iapply (runs_ret c); iapply Hk; iexact H

/-- Part 9: attention with the last heads, and the device's partial product put into the output. -/
theorem part9 (c : Dev nD) (q : FVec F S512x1024 .f32) (h0 h1 h2 h3 h4 h5 : FVec F S512x128 .f32) (s : FVec F S512x2048 .f32)
    {f : (cc0_stg3_0 : Ref sig .tc).ty.Contents (Elt F)} {f' : (cc0_scratch3 : Ref sig .tc).ty.Contents (Elt F)} {Q : FVec F S512x1024 .bf16 → sProp 𝕄}
    (hp : k0_pay13 q h0 h1 h2 h3 h4 h5 s (kvL (vX m c 1)) (kvL (kX m c 1)) (kvL (vX m c 1)) (woC m c) = part m c) :
    iprop(heads m c ∗ buf c cc0_stg2_0 (woC m c) ∗ outPts c f ∗ buf c cc0_scratch3 f')
      ⊢ iprop(((heads m c ∗ buf c cc0_stg2_0 (woC m c) ∗ outPts c (part m c) ∗ buf c cc0_scratch3 f') -∗ Q (k0_pay14 (part m c)))
      -∗ runs c (given k0_part9 q h0 h1 h2 h3 h4 h5 s) Q) := by
  rw [given, k0_part9_eq_skeleton, ← hp]
  unfold k0_part9_skel
  simp only [Prog.lift, Prog.bind_op, Prog.bind_ret, Prog.pure_eq_ret]
  iintro ⟨H, Hw, Ho, Hb⟩ Hk
  iapply (v_load m c 1 rfl) $$ H; iintro H
  iapply (k_load m c 1 rfl) $$ H; iintro H
  iapply (v_load m c 1 rfl) $$ H; iintro H
  iapply (wo_load c) $$ Hw; iintro Hw
  iapply (out_whole c) $$ Ho; iintro Ho
  iapply (out_fill c) $$ Ho; iintro Ho
  iapply (out_whole c) $$ Ho; iintro Ho
  iapply (sb_load c) $$ Hb; iintro Hb
  iapply (runs_ret c); iapply Hk
  isplitl [H]; · iexact H
  isplitl [Hw]; · iexact Hw
  isplitl [Ho]; · iexact Ho
  iexact Hb

end Cert.AllPairs

end
-- ==== Proof.Parts2.lean ====
/-
  The kernel's body, part by part: the first exchange.
-/
module

public import proofs.«01_k».proof.Proof.Parts

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## The first exchange is sent -/

/-- The right to pay both semaphores of a send of the first exchange; of the second. -/
def rsTok (c : Dev nD) (r : Fin 15) : sProp 𝕄 := iprop(dutyTok ER (rsS c (up c r)) 0 0 ∗ dutyTok ER (rsR (up c r) c) 0 0)
def agTok (c : Dev nD) (r : Fin 15) : sProp 𝕄 := iprop(dutyTok ER (agS c (up c r)) 0 0 ∗ dutyTok ER (agR (up c r) c) 0 0)

/-- After the barrier, what the fifteen sends of the first exchange need is at hand. -/
theorem rs_ready (c : Dev nD) : iprop(chain (rsTok c) all ∗ buf c cc0_scratch3 (sbC m c) ∗ chain (fun r => barPay (F := F) c (up c r)) all)
    ⊢ iprop(chain (rsItem m c) all ∗ rsSPay m c c ∗ chain (fun r => room (F := F) (up c r) (slot agM c)) all) := by
  have h : chain (fun r => barPay (F := F) c (up c r)) all ⊢ iprop(chain (fun r => room (F := F) (up c r) (slot rsM c)) all ∗ chain (fun r => room (F := F) (up c r) (slot agM c)) all) :=
    chain_unzip fun r => BIBase.Entails.refl
  have h2 : iprop(chain (fun r => rsSPay m c (up c r)) all ∗ chain (fun r => room (F := F) (up c r) (slot rsM c)) all)
      ⊢ chain (fun r => iprop(rsSPay m c (up c r) ∗ room (F := F) (up c r) (slot rsM c))) all := chain_zip fun r => BIBase.Entails.refl
  have h3 : iprop(chain (rsTok c) all ∗ chain (fun r => iprop(rsSPay m c (up c r) ∗ room (F := F) (up c r) (slot rsM c))) all) ⊢ chain (rsItem m c) all := by
    refine chain_zip fun r => ?_
    unfold rsTok rsItem
    iintro ⟨⟨H1, H2⟩, H3, H4⟩
    isplitl [H1]; · iexact H1
    isplitl [H2]; · iexact H2
    isplitl [H3]; · iexact H3
    iexact H4
  rw [sb_cut m c, ring_up c]
  iintro ⟨Ht, ⟨Hc, Hs⟩, Hb⟩
  ihave Hb := h $$ Hb
  icases Hb with ⟨Hr, Ha⟩
  isplitl [Ht Hs Hr]
  · iapply h3; isplitl [Ht]; · iexact Ht
    iapply h2; isplitl [Hs]; · iexact Hs
    iexact Hr
  isplitl [Hc]; · iexact Hc
  iexact Ha

/-- What is held before the first send. -/
theorem rsSt_begin (c : Dev nD) : iprop(ctx m K ∗ debts c (O₁ c) ∗ chain (rsItem m c) all) ⊢ rsSt m K c 0 := by
  unfold rsSt O₁
  rw [show all.drop 0 = all from rfl, show all.take 0 = [] from rfl]
  iintro ⟨#Hx, HO, HS⟩
  isplitr; · iexact Hx
  isplitl [HO]; · iexact HO
  isplitl [HS]; · iexact HS
  iempintro

/-- Part 10: the barrier's wait, and the first two sends of the first exchange. -/
theorem part10 (c : Dev nD) (v2 : BitVec 32) {f : (cc0_scratch3 : Ref sig .tc).ty.Contents (Elt F)} {Q : PUnit → sProp 𝕄} :
    iprop(ctx m K ∗ debts c (O₁ c) ∗ (cred (tallyAt (bar c) () 15) ∗ atPos ER (bar c) 0 ∅ 0) ∗ chain (rsTok c) all ∗ buf c cc0_scratch3 f) ⊢ iprop(((rsSt m K c 2 ∗ semVal (bar c) 0 ∗ rsSPay m c c ∗ chain (fun r => room (F := F) (up c r) (slot agM c)) all) -∗ Q ⟨⟩) -∗ runs c (given k0_part10 c v2 (SemArray.scalar (sig.barrier 0 rfl)) (k0_pay14 (part m c))) Q) := by
  rw [given, k0_part10_eq_skeleton]
  unfold k0_part10_skel
  simp only [semWaitWord, Prog.lift, Prog.bind_op, Prog.bind_ret, Prog.pure_eq_ret]
  iintro ⟨#Hx, HO, ⟨Hc, Ha⟩, Ht, Hb⟩ Hk
  iapply (sb_fill c) $$ Hb; iintro Hb
  iapply (bar_wait m K c) $$ [HO Hc Ha]
  · isplitr; · iexact Hx
    isplitl [HO]; · iexact HO
    isplitl [Hc]; · iexact Hc
    iexact Ha
  iintro ⟨-, HO, Hp, Hz⟩
  ihave Hb := (Entails.of_eq (show buf c cc0_scratch3 (k0_pay15 (k0_pay14 (part m c))) = buf c cc0_scratch3 (sbC m c) from rfl)) $$ Hb
  ihave H := (rs_ready m c) $$ [Ht Hb Hp]
  · isplitl [Ht]; · iexact Ht
    isplitl [Hb]; · iexact Hb
    iexact Hp
  icases H with ⟨HS, Hs, Hr⟩
  ihave H := (rsSt_begin m K c) $$ [HO HS]
  · isplitr; · iexact Hx
    isplitl [HO]; · iexact HO
    iexact HS
  iapply (rs_step m K c ⟨0, by decide⟩ 1#32 rfl _ (Fin.ext (k0_dev16_eq c))) $$ H; iintro H
  iapply (rs_step m K c ⟨1, by decide⟩ 2#32 rfl _ (Fin.ext (k0_dev17_eq c))) $$ H; iintro H
  iapply (runs_ret c); iapply Hk
  isplitl [H]; · iexact H
  isplitl [Hz]; · iexact Hz
  isplitl [Hs]; · iexact Hs
  iexact Hr

/-- Part 11: sends up to the fifth. -/
theorem part11 (c : Dev nD) (v2 : BitVec 32) {Q : (Σ' (v342 : BitVec 32), BitVec 32) → sProp 𝕄} :
    rsSt m K c 2 ⊢ iprop((∀ w w', rsSt m K c 5 -∗ Q ⟨w, w'⟩) -∗ runs c (given k0_part11 c v2) Q) := by
  rw [given, k0_part11_eq_skeleton]
  unfold k0_part11_skel
  simp only [Prog.lift, Prog.bind_op, Prog.bind_ret, Prog.pure_eq_ret]
  iintro H Hk
  iapply (rs_step m K c ⟨2, by decide⟩ 3#32 rfl _ (Fin.ext (k0_dev18_eq c))) $$ H; iintro H
  iapply (rs_step m K c ⟨3, by decide⟩ 4#32 rfl _ (Fin.ext (k0_dev19_eq c))) $$ H; iintro H
  iapply (rs_step m K c ⟨4, by decide⟩ 5#32 rfl _ (Fin.ext (k0_dev20_eq c))) $$ H; iintro H
  iapply (runs_ret c); iapply Hk; iexact H

/-- Part 12: sends up to the seventh. -/
theorem part12 (c : Dev nD) (v2 : BitVec 32) (w w' : BitVec 32) {Q : PUnit → sProp 𝕄} :
    rsSt m K c 5 ⊢ iprop((rsSt m K c 7 -∗ Q ⟨⟩) -∗ runs c (given k0_part12 c v2 w w') Q) := by
  rw [given, k0_part12_eq_skeleton]
  unfold k0_part12_skel
  simp only [Prog.lift, Prog.bind_op, Prog.bind_ret, Prog.pure_eq_ret]
  iintro H Hk
  iapply (rs_step m K c ⟨5, by decide⟩ 6#32 rfl _ (Fin.ext (k0_dev21_eq c))) $$ H; iintro H
  iapply (rs_step m K c ⟨6, by decide⟩ 7#32 rfl _ (Fin.ext (k0_dev22_eq c))) $$ H; iintro H
  iapply (runs_ret c); iapply Hk; iexact H

/-- Part 13: sends up to the tenth. -/
theorem part13 (c : Dev nD) (v2 : BitVec 32) {Q : PUnit → sProp 𝕄} :
    rsSt m K c 7 ⊢ iprop((rsSt m K c 10 -∗ Q ⟨⟩) -∗ runs c (given k0_part13 c v2) Q) := by
  rw [given, k0_part13_eq_skeleton]
  unfold k0_part13_skel
  simp only [Prog.lift, Prog.bind_op, Prog.bind_ret, Prog.pure_eq_ret]
  iintro H Hk
  iapply (rs_step m K c ⟨7, by decide⟩ 8#32 rfl _ (Fin.ext (k0_dev23_eq c))) $$ H; iintro H
  iapply (rs_step m K c ⟨8, by decide⟩ 9#32 rfl _ (Fin.ext (k0_dev24_eq c))) $$ H; iintro H
  iapply (rs_step m K c ⟨9, by decide⟩ 10#32 rfl _ (Fin.ext (k0_dev25_eq c))) $$ H; iintro H
  iapply (runs_ret c); iapply Hk; iexact H

/-- Part 14: sends up to the thirteenth. -/
theorem part14 (c : Dev nD) (v2 : BitVec 32) {Q : BitVec 32 → sProp 𝕄} :
    rsSt m K c 10 ⊢ iprop((∀ w, rsSt m K c 13 -∗ Q w) -∗ runs c (given k0_part14 c v2) Q) := by
  rw [given, k0_part14_eq_skeleton]
  unfold k0_part14_skel
  simp only [Prog.lift, Prog.bind_op, Prog.bind_ret, Prog.pure_eq_ret]
  iintro H Hk
  iapply (rs_step m K c ⟨10, by decide⟩ 11#32 rfl _ (Fin.ext (k0_dev26_eq c))) $$ H; iintro H
  iapply (rs_step m K c ⟨11, by decide⟩ 12#32 rfl _ (Fin.ext (k0_dev27_eq c))) $$ H; iintro H
  iapply (rs_step m K c ⟨12, by decide⟩ 13#32 rfl _ (Fin.ext (k0_dev28_eq c))) $$ H; iintro H
  iapply (runs_ret c); iapply Hk; iexact H

/-- The load of the device's own rows of its partial product. -/
theorem own_load (c : Dev nD) {i hl} {α : Type} {Q : α → sProp 𝕄} {k : Vec F S32x1024 .f32 → Prog (TpuEff nD τ sig (Elt F) Λ₀ .tc) α} :
    outPts c (part m c) ⊢ iprop((outPts c (part m c) -∗ runs c (k (outM.view.readAt (Elt F) (chunkR c).toLoadRect (part m c))) Q)
      -∗ runs c (.op (.load outM (Rect.unit (s := S512x1024) (k0_off6 c) S32x1024.size i).toLoadRect hl) k) Q) := by
  have h6 : k0_off6 c = ![32 * c.val, 0] := k0_off6_eq c
  revert i hl; rw [h6]; intro i hl
  exact out_load c (part m c) (chunkR c)

/-- Part 15: the last sends, and the load of the device's own chunk. -/
theorem part15 (c : Dev nD) (v2 : BitVec 32) (w : BitVec 32) {Q : (Σ' (v472 : BitVec 32) (v475 : FVec F S32x1024 .f32), BitVec 32) → sProp 𝕄} :
    iprop(rsSt m K c 13 ∗ outPts c (part m c)) ⊢ iprop((∀ w w', (rsSt m K c 15 ∗ outPts c (part m c)) -∗ Q ⟨w, own m c, w'⟩) -∗ runs c (given k0_part15 c v2 w) Q) := by
  rw [given, k0_part15_eq_skeleton]
  unfold k0_part15_skel
  simp only [Prog.lift, Prog.bind_op, Prog.bind_ret, Prog.pure_eq_ret]
  iintro ⟨H, Ho⟩ Hk
  iapply (rs_step m K c ⟨13, by decide⟩ 14#32 rfl _ (Fin.ext (k0_dev29_eq c))) $$ H; iintro H
  iapply (rs_step m K c ⟨14, by decide⟩ 15#32 rfl _ (Fin.ext (k0_dev30_eq c))) $$ H; iintro H
  iapply (own_load m c) $$ Ho; iintro Ho
  iapply (runs_ret c); unfold own; iapply Hk
  isplitl [H]; · iexact H
  iexact Ho

/-! ## Its arrivals are added up -/

/-- A decided bound is a bound. -/
theorem lt15 {n : ℕ} (h : decide (n < 15) = true) : n < 15 := of_decide_eq_true h

/-- Part 16: three chunks received and added. -/
theorem part16 (c : Dev nD) (v2 : BitVec 32) (w : BitVec 32) {Q : FVec F S32x1024 .f32 → sProp 𝕄} :
    (rwW m c).st K 0 ⊢ iprop(((rwW m c).st K 3 -∗ Q (acc3 m c)) -∗ runs c (given k0_part16 c v2 (own m c) w) Q) := by
  rw [given, k0_part16_eq_skeleton, show acc3 m c = k0_pay17 (own m c) (rsL m c ⟨0, by decide⟩) (rsL m c ⟨1, by decide⟩) from rfl]
  unfold k0_part16_skel
  simp only [Prog.lift, Prog.bind_op, Prog.bind_ret, Prog.pure_eq_ret]
  iintro H Hk
  iapply (rw_step m K c ⟨0, by decide⟩ 1#32 rfl) $$ H; iintro H
  iapply (rw_load m K c ⟨0, lt15 rfl⟩ 1#32 rfl) $$ H; iintro H
  iapply (rw_step m K c ⟨1, by decide⟩ 2#32 rfl) $$ H; iintro H
  iapply (rw_load m K c ⟨1, lt15 rfl⟩ 2#32 rfl) $$ H; iintro H
  iapply (rw_step m K c ⟨2, by decide⟩ 3#32 rfl) $$ H; iintro H
  iapply (runs_ret c); iapply Hk; iexact H

/-- Part 17: chunks received up to the fifth, and added. -/
theorem part17 (c : Dev nD) (v2 : BitVec 32) {Q : (Σ' (v535 : FVec F S32x1024 .f32), FVec F S32x1024 .bf16) → sProp 𝕄} :
    (rwW m c).st K 3 ⊢ iprop(((rwW m c).st K 5 -∗ Q ⟨acc5 m c, k0_pay19 (rsL m c 4)⟩) -∗ runs c (given k0_part17 c v2 (acc3 m c)) Q) := by
  rw [given, k0_part17_eq_skeleton, show acc5 m c = k0_pay18 (acc3 m c) (rsL m c ⟨2, by decide⟩) (rsL m c ⟨3, by decide⟩) from rfl, show rsL m c 4 = (rsL m c ⟨4, by decide⟩) from rfl]
  unfold k0_part17_skel
  simp only [Prog.lift, Prog.bind_op, Prog.bind_ret, Prog.pure_eq_ret]
  iintro H Hk
  iapply (rw_load m K c ⟨2, lt15 rfl⟩ 3#32 rfl) $$ H; iintro H
  iapply (rw_step m K c ⟨3, by decide⟩ 4#32 rfl) $$ H; iintro H
  iapply (rw_load m K c ⟨3, lt15 rfl⟩ 4#32 rfl) $$ H; iintro H
  iapply (rw_step m K c ⟨4, by decide⟩ 5#32 rfl) $$ H; iintro H
  iapply (rw_load m K c ⟨4, lt15 rfl⟩ 5#32 rfl) $$ H; iintro H
  iapply (runs_ret c); iapply Hk; iexact H

/-- Part 18: chunks received up to the seventh, and the eighth's sum. -/
theorem part18 (c : Dev nD) (v2 : BitVec 32) {Q : (Σ' (v580 : FVec F S32x1024 .f32), BitVec 32) → sProp 𝕄} :
    (rwW m c).st K 5 ⊢ iprop((∀ w, (rwW m c).st K 7 -∗ Q ⟨acc8 m c, w⟩) -∗ runs c (given k0_part18 c v2 (acc5 m c) (k0_pay19 (rsL m c 4))) Q) := by
  rw [given, k0_part18_eq_skeleton, show acc8 m c = k0_pay20 (acc5 m c) (k0_pay19 (rsL m c 4)) (rsL m c ⟨5, by decide⟩) (rsL m c ⟨6, by decide⟩) from rfl]
  unfold k0_part18_skel
  simp only [Prog.lift, Prog.bind_op, Prog.bind_ret, Prog.pure_eq_ret]
  iintro H Hk
  iapply (rw_step m K c ⟨5, by decide⟩ 6#32 rfl) $$ H; iintro H
  iapply (rw_load m K c ⟨5, lt15 rfl⟩ 6#32 rfl) $$ H; iintro H
  iapply (rw_step m K c ⟨6, by decide⟩ 7#32 rfl) $$ H; iintro H
  iapply (rw_load m K c ⟨6, lt15 rfl⟩ 7#32 rfl) $$ H; iintro H
  iapply (runs_ret c); iapply Hk; iexact H

/-- Part 19: chunks received up to the ninth, and the tenth's sum. -/
theorem part19 (c : Dev nD) (v2 : BitVec 32) (w : BitVec 32) {Q : (Σ' (v610 : FVec F S32x1024 .f32), BitVec 32) → sProp 𝕄} :
    (rwW m c).st K 7 ⊢ iprop((∀ w, (rwW m c).st K 9 -∗ Q ⟨acc10 m c, w⟩) -∗ runs c (given k0_part19 c v2 (acc8 m c) w) Q) := by
  rw [given, k0_part19_eq_skeleton, show acc10 m c = k0_pay21 (acc8 m c) (rsL m c ⟨7, by decide⟩) (rsL m c ⟨8, by decide⟩) from rfl]
  unfold k0_part19_skel
  simp only [Prog.lift, Prog.bind_op, Prog.bind_ret, Prog.pure_eq_ret]
  iintro H Hk
  iapply (rw_step m K c ⟨7, by decide⟩ 8#32 rfl) $$ H; iintro H
  iapply (rw_load m K c ⟨7, lt15 rfl⟩ 8#32 rfl) $$ H; iintro H
  iapply (rw_step m K c ⟨8, by decide⟩ 9#32 rfl) $$ H; iintro H
  iapply (rw_load m K c ⟨8, lt15 rfl⟩ 9#32 rfl) $$ H; iintro H
  iapply (runs_ret c); iapply Hk; iexact H

/-- Part 20: chunks received up to the eleventh, and the twelfth's sum. -/
theorem part20 (c : Dev nD) (v2 : BitVec 32) (w : BitVec 32) {Q : (Σ' (v640 : FVec F S32x1024 .f32) (v643 : BitVec 32) (v644 : BitVec 32), BitVec 32) → sProp 𝕄} :
    (rwW m c).st K 9 ⊢ iprop((∀ w w' w'', (rwW m c).st K 11 -∗ Q ⟨acc12 m c, w, w', w''⟩) -∗ runs c (given k0_part20 c v2 (acc10 m c) w) Q) := by
  rw [given, k0_part20_eq_skeleton, show acc12 m c = k0_pay22 (acc10 m c) (rsL m c ⟨9, by decide⟩) (rsL m c ⟨10, by decide⟩) from rfl]
  unfold k0_part20_skel
  simp only [Prog.lift, Prog.bind_op, Prog.bind_ret, Prog.pure_eq_ret]
  iintro H Hk
  iapply (rw_step m K c ⟨9, by decide⟩ 10#32 rfl) $$ H; iintro H
  iapply (rw_load m K c ⟨9, lt15 rfl⟩ 10#32 rfl) $$ H; iintro H
  iapply (rw_step m K c ⟨10, by decide⟩ 11#32 rfl) $$ H; iintro H
  iapply (rw_load m K c ⟨10, lt15 rfl⟩ 11#32 rfl) $$ H; iintro H
  iapply (runs_ret c); iapply Hk; iexact H

/-- Part 21: chunks received up to the thirteenth, and the fourteenth's sum. -/
theorem part21 (c : Dev nD) (v2 : BitVec 32) (w w' w'' : BitVec 32) {Q : (Σ' (v670 : FVec F S32x1024 .f32), BitVec 32) → sProp 𝕄} :
    (rwW m c).st K 11 ⊢ iprop((∀ w, (rwW m c).st K 13 -∗ Q ⟨acc14 m c, w⟩) -∗ runs c (given k0_part21 c v2 (acc12 m c) w w' w'') Q) := by
  rw [given, k0_part21_eq_skeleton, show acc14 m c = k0_pay23 (acc12 m c) (rsL m c ⟨11, by decide⟩) (rsL m c ⟨12, by decide⟩) from rfl]
  unfold k0_part21_skel
  simp only [Prog.lift, Prog.bind_op, Prog.bind_ret, Prog.pure_eq_ret]
  iintro H Hk
  iapply (rw_step m K c ⟨11, by decide⟩ 12#32 rfl) $$ H; iintro H
  iapply (rw_load m K c ⟨11, lt15 rfl⟩ 12#32 rfl) $$ H; iintro H
  iapply (rw_step m K c ⟨12, by decide⟩ 13#32 rfl) $$ H; iintro H
  iapply (rw_load m K c ⟨12, lt15 rfl⟩ 13#32 rfl) $$ H; iintro H
  iapply (runs_ret c); iapply Hk; iexact H

/-- Part 22: the last chunk received; the finished chunk put into the output and into its send buffer. -/
theorem part22 (c : Dev nD) (v2 : BitVec 32) (w w' : BitVec 32) {f : (cc0_scratch4 : Ref sig .tc).ty.Contents (Elt F)} {Q : (Σ' (v709 : BitVec 32), BitVec 32) → sProp 𝕄} :
    iprop((rwW m c).st K 13 ∗ outPts c (part m c) ∗ buf c cc0_scratch4 f) ⊢ iprop((∀ w w', ((rwW m c).st K 15 ∗ outPts c (outC m c 0) ∗ buf c cc0_scratch4 (agC m c)) -∗ Q ⟨w, w'⟩) -∗ runs c (given k0_part22 c v2 w (acc14 m c) w') Q) := by
  rw [given, k0_part22_eq_skeleton, show outC m c 0 = putRows c (part m c) (k0_pay24 (acc14 m c) (rsL m c ⟨13, by decide⟩) (rsL m c ⟨14, by decide⟩)) from rfl, show agC m c = k0_pay25 (acc14 m c) (rsL m c ⟨13, by decide⟩) (rsL m c ⟨14, by decide⟩) from rfl]
  unfold k0_part22_skel
  simp only [Prog.lift, Prog.bind_op, Prog.bind_ret, Prog.pure_eq_ret]
  iintro ⟨H, Ho, Hb⟩ Hk
  iapply (rw_step m K c ⟨13, by decide⟩ 14#32 rfl) $$ H; iintro H
  iapply (rw_load m K c ⟨13, lt15 rfl⟩ 14#32 rfl) $$ H; iintro H
  iapply (rw_step m K c ⟨14, by decide⟩ 15#32 rfl) $$ H; iintro H
  iapply (rw_load m K c ⟨14, lt15 rfl⟩ 15#32 rfl) $$ H; iintro H
  iapply (out_load c (part m c) _) $$ Ho; iintro Ho
  iapply (out_store c c (part m c) (k0_off6_eq c) _) $$ Ho; iintro Ho
  iapply (agb_load c) $$ Hb; iintro Hb
  iapply (agb_fill c) $$ Hb; iintro Hb
  iapply (runs_ret c); iapply Hk
  isplitl [H]; · iexact H
  isplitl [Ho]; · iexact Ho
  iexact Hb

end Cert.AllPairs

end
-- ==== Proof.Parts3.lean ====
/-
  The kernel's body, part by part: the second exchange, and the waits for what was sent.
-/
module

public import proofs.«01_k».proof.Proof.Parts2

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## The second exchange is sent -/

/-- Part 23: the first three sends of the second exchange. -/
theorem part23 (c : Dev nD) (v2 : BitVec 32) (w w' : BitVec 32) {Q : PUnit → sProp 𝕄} :
    agSt m K c 0 ⊢ iprop((agSt m K c 3 -∗ Q ⟨⟩) -∗ runs c (given k0_part23 c v2 w w') Q) := by
  rw [given, k0_part23_eq_skeleton]
  unfold k0_part23_skel
  simp only [Prog.lift, Prog.bind_op, Prog.bind_ret, Prog.pure_eq_ret]
  iintro H Hk
  iapply (ag_step m K c ⟨0, by decide⟩ 1#32 rfl _ (Fin.ext (k0_dev31_eq c))) $$ H; iintro H
  iapply (ag_step m K c ⟨1, by decide⟩ 2#32 rfl _ (Fin.ext (k0_dev32_eq c))) $$ H; iintro H
  iapply (ag_step m K c ⟨2, by decide⟩ 3#32 rfl _ (Fin.ext (k0_dev33_eq c))) $$ H; iintro H
  iapply (runs_ret c); iapply Hk; iexact H

/-- Part 24: sends up to the seventh. -/
theorem part24 (c : Dev nD) (v2 : BitVec 32) {Q : PUnit → sProp 𝕄} :
    agSt m K c 3 ⊢ iprop((agSt m K c 7 -∗ Q ⟨⟩) -∗ runs c (given k0_part24 c v2) Q) := by
  rw [given, k0_part24_eq_skeleton]
  unfold k0_part24_skel
  simp only [Prog.lift, Prog.bind_op, Prog.bind_ret, Prog.pure_eq_ret]
  iintro H Hk
  iapply (ag_step m K c ⟨3, by decide⟩ 4#32 rfl _ (Fin.ext (k0_dev34_eq c))) $$ H; iintro H
  iapply (ag_step m K c ⟨4, by decide⟩ 5#32 rfl _ (Fin.ext (k0_dev35_eq c))) $$ H; iintro H
  iapply (ag_step m K c ⟨5, by decide⟩ 6#32 rfl _ (Fin.ext (k0_dev36_eq c))) $$ H; iintro H
  iapply (ag_step m K c ⟨6, by decide⟩ 7#32 rfl _ (Fin.ext (k0_dev37_eq c))) $$ H; iintro H
  iapply (runs_ret c); iapply Hk; iexact H

/-- Part 25: sends up to the eleventh. -/
theorem part25 (c : Dev nD) (v2 : BitVec 32) {Q : PUnit → sProp 𝕄} :
    agSt m K c 7 ⊢ iprop((agSt m K c 11 -∗ Q ⟨⟩) -∗ runs c (given k0_part25 c v2) Q) := by
  rw [given, k0_part25_eq_skeleton]
  unfold k0_part25_skel
  simp only [Prog.lift, Prog.bind_op, Prog.bind_ret, Prog.pure_eq_ret]
  iintro H Hk
  iapply (ag_step m K c ⟨7, by decide⟩ 8#32 rfl _ (Fin.ext (k0_dev38_eq c))) $$ H; iintro H
  iapply (ag_step m K c ⟨8, by decide⟩ 9#32 rfl _ (Fin.ext (k0_dev39_eq c))) $$ H; iintro H
  iapply (ag_step m K c ⟨9, by decide⟩ 10#32 rfl _ (Fin.ext (k0_dev40_eq c))) $$ H; iintro H
  iapply (ag_step m K c ⟨10, by decide⟩ 11#32 rfl _ (Fin.ext (k0_dev41_eq c))) $$ H; iintro H
  iapply (runs_ret c); iapply Hk; iexact H

/-- Part 26: sends up to the fourteenth. -/
theorem part26 (c : Dev nD) (v2 : BitVec 32) {Q : PUnit → sProp 𝕄} :
    agSt m K c 11 ⊢ iprop((agSt m K c 14 -∗ Q ⟨⟩) -∗ runs c (given k0_part26 c v2) Q) := by
  rw [given, k0_part26_eq_skeleton]
  unfold k0_part26_skel
  simp only [Prog.lift, Prog.bind_op, Prog.bind_ret, Prog.pure_eq_ret]
  iintro H Hk
  iapply (ag_step m K c ⟨11, by decide⟩ 12#32 rfl _ (Fin.ext (k0_dev42_eq c))) $$ H; iintro H
  iapply (ag_step m K c ⟨12, by decide⟩ 13#32 rfl _ (Fin.ext (k0_dev43_eq c))) $$ H; iintro H
  iapply (ag_step m K c ⟨13, by decide⟩ 14#32 rfl _ (Fin.ext (k0_dev44_eq c))) $$ H; iintro H
  iapply (runs_ret c); iapply Hk; iexact H

/-! ## Its arrivals are written to the result -/

/-- Before the `n`-th arrival of the second exchange is taken; -/
def awSt (c : Dev nD) (n : ℕ) : sProp 𝕄 := iprop((awW m c).st K n ∗ outPts c (outC m c n))
/-- the same, with that arrival waited for. -/
def awMid (c : Dev nD) (n : ℕ) : sProp 𝕄 := iprop((awW m c).st K (n + 1) ∗ outPts c (outC m c n))

/-- The wait for the next finished chunk. -/
theorem aw_next (c : Dev nD) (r : Fin 15) (t : BitVec 32) (ht : t = BitVec.ofNat 32 (1 + r.val)) {i7 i8}
    {sp' : Space} {e' : EltTy} {src : Memref sig .tc sp' S32x1024 e'} {h₁ h₂}
    {α : Type} {Q : α → sProp 𝕄} {k : PUnit → Prog (TpuEff nD τ sig (Elt F) Λ₀ .tc) α} :
    awSt m K c r.val ⊢ iprop((awMid m K c r.val -∗ runs c (k ⟨⟩) Q)
      -∗ runs c (.op (.waitDma2 ((cc0_scratch10.slice (Rect.unit (s := S16) (k0_off7 c t) S1.size i7)).squeeze S_ squeezes_S1_S_).sem src
          ((agM.slice (Rect.unit (s := S16x32x1024) (k0_off8 c t) S1x32x1024.size i8) (fun _ => rfl)).squeeze S32x1024 squeezes_S1x32x1024_S32x1024) h₁ h₂) k) Q) := by
  unfold awSt awMid
  iintro ⟨H, Ho⟩ Hk
  iapply (aw_step m K c r t ht) $$ H; iintro H
  iapply Hk
  isplitl [H]; · iexact H
  iexact Ho
/-- The next finished chunk is loaded and its rows are put into the output. -/
theorem take_next (c : Dev nD) (r : Fin 15) (t : BitVec 32) (ht : t = BitVec.ofNat 32 (1 + r.val)) (g : Vec F S1x32x1024 .bf16 → FVec F S32x1024 .f32) (hg : g = k0_pay26)
    {i9 i10 hl hl' hx hm} {α : Type} {Q : α → sProp 𝕄} {k : PUnit → Prog (TpuEff nD τ sig (Elt F) Λ₀ .tc) α} :
    awMid m K c r.val ⊢ iprop((awSt m K c (r.val + 1) -∗ runs c (k ⟨⟩) Q)
      -∗ runs c (.op (.load agM (Rect.unit (s := S16x32x1024) (k0_off9 c t) S1x32x1024.size i9).toLoadRect hl) fun v =>
          .op (.load outM (Rect.unit (s := S512x1024) (k0_off10 c t) S32x1024.size i10).toLoadRect hl') fun _ =>
          .op (.store outM (Rect.unit (s := S512x1024) (k0_off10 c t) S32x1024.size i10) (g v) Finset.univ hx hm) k) Q) :=
  take_step m K c r t ht g hg

/-- Part 27: the last send, and the waits for finished chunks up to the second, whose rows are still to be put. -/
theorem part27 (c : Dev nD) (v2 : BitVec 32) {Q : BitVec 32 → sProp 𝕄} (A : sProp 𝕄) (h : iprop(agSt m K c 15 ∗ A) ⊢ iprop(awSt m K c 0 ∗ agPts m c (restS 15) ∗ chain (agSent c) all)) :
    iprop(agSt m K c 14 ∗ A) ⊢ iprop((∀ w, (awMid m K c 1 ∗ agPts m c (restS 15) ∗ chain (agSent c) all) -∗ Q w) -∗ runs c (given k0_part27 c v2) Q) := by
  rw [given, k0_part27_eq_skeleton]
  unfold k0_part27_skel
  simp only [Prog.lift, Prog.bind_op, Prog.bind_ret, Prog.pure_eq_ret]
  iintro ⟨H, HA⟩ Hk
  iapply (ag_step m K c ⟨14, by decide⟩ 15#32 rfl _ (Fin.ext (k0_dev45_eq c))) $$ H; iintro H
  ihave H := h $$ [H HA]
  · isplitl [H]; · iexact H
    iexact HA
  icases H with ⟨H, Hr⟩
  iapply (aw_next m K c ⟨0, by decide⟩ 1#32 rfl) $$ H; iintro H
  iapply (take_next m K c ⟨0, lt15 rfl⟩ 1#32 rfl k0_pay26 rfl) $$ H; iintro H
  iapply (aw_next m K c ⟨1, by decide⟩ 2#32 rfl) $$ H; iintro H
  iapply (runs_ret c); iapply Hk
  isplitl [H]; · iexact H
  iexact Hr

/-- Part 28: finished chunks up to the fourth, whose rows are still to be put. -/
theorem part28 (c : Dev nD) (v2 : BitVec 32) (w : BitVec 32) {Q : BitVec 32 → sProp 𝕄} :
    awMid m K c 1 ⊢ iprop((∀ w, awMid m K c 3 -∗ Q w) -∗ runs c (given k0_part28 c v2 w) Q) := by
  rw [given, k0_part28_eq_skeleton]
  unfold k0_part28_skel
  simp only [Prog.lift, Prog.bind_op, Prog.bind_ret, Prog.pure_eq_ret]
  iintro H Hk
  iapply (take_next m K c ⟨1, lt15 rfl⟩ 2#32 rfl k0_pay27 rfl) $$ H; iintro H
  iapply (aw_next m K c ⟨2, by decide⟩ 3#32 rfl) $$ H; iintro H
  iapply (take_next m K c ⟨2, lt15 rfl⟩ 3#32 rfl k0_pay28 rfl) $$ H; iintro H
  iapply (aw_next m K c ⟨3, by decide⟩ 4#32 rfl) $$ H; iintro H
  iapply (runs_ret c); iapply Hk; iexact H

/-- Part 29: the rows of five finished chunks are put. -/
theorem part29 (c : Dev nD) (v2 : BitVec 32) (w : BitVec 32) {Q : BitVec 32 → sProp 𝕄} :
    awMid m K c 3 ⊢ iprop((∀ w, awSt m K c 5 -∗ Q w) -∗ runs c (given k0_part29 c v2 w) Q) := by
  rw [given, k0_part29_eq_skeleton]
  unfold k0_part29_skel
  simp only [Prog.lift, Prog.bind_op, Prog.bind_ret, Prog.pure_eq_ret]
  iintro H Hk
  iapply (take_next m K c ⟨3, lt15 rfl⟩ 4#32 rfl k0_pay29 rfl) $$ H; iintro H
  iapply (aw_next m K c ⟨4, by decide⟩ 5#32 rfl) $$ H; iintro H
  iapply (take_next m K c ⟨4, lt15 rfl⟩ 5#32 rfl k0_pay30 rfl) $$ H; iintro H
  iapply (runs_ret c); iapply Hk; iexact H

/-- Part 30: the rows of seven finished chunks are put. -/
theorem part30 (c : Dev nD) (v2 : BitVec 32) (w : BitVec 32) {Q : BitVec 32 → sProp 𝕄} :
    awSt m K c 5 ⊢ iprop((∀ w, awSt m K c 7 -∗ Q w) -∗ runs c (given k0_part30 c v2 w) Q) := by
  rw [given, k0_part30_eq_skeleton]
  unfold k0_part30_skel
  simp only [Prog.lift, Prog.bind_op, Prog.bind_ret, Prog.pure_eq_ret]
  iintro H Hk
  iapply (aw_next m K c ⟨5, by decide⟩ 6#32 rfl) $$ H; iintro H
  iapply (take_next m K c ⟨5, lt15 rfl⟩ 6#32 rfl k0_pay31 rfl) $$ H; iintro H
  iapply (aw_next m K c ⟨6, by decide⟩ 7#32 rfl) $$ H; iintro H
  iapply (take_next m K c ⟨6, lt15 rfl⟩ 7#32 rfl k0_pay32 rfl) $$ H; iintro H
  iapply (runs_ret c); iapply Hk; iexact H

/-- Part 31: the rows of nine finished chunks are put. -/
theorem part31 (c : Dev nD) (v2 : BitVec 32) (w : BitVec 32) {Q : BitVec 32 → sProp 𝕄} :
    awSt m K c 7 ⊢ iprop((∀ w, awSt m K c 9 -∗ Q w) -∗ runs c (given k0_part31 c v2 w) Q) := by
  rw [given, k0_part31_eq_skeleton]
  unfold k0_part31_skel
  simp only [Prog.lift, Prog.bind_op, Prog.bind_ret, Prog.pure_eq_ret]
  iintro H Hk
  iapply (aw_next m K c ⟨7, by decide⟩ 8#32 rfl) $$ H; iintro H
  iapply (take_next m K c ⟨7, lt15 rfl⟩ 8#32 rfl k0_pay33 rfl) $$ H; iintro H
  iapply (aw_next m K c ⟨8, by decide⟩ 9#32 rfl) $$ H; iintro H
  iapply (take_next m K c ⟨8, lt15 rfl⟩ 9#32 rfl k0_pay34 rfl) $$ H; iintro H
  iapply (runs_ret c); iapply Hk; iexact H

/-- Part 32: the rows of eleven finished chunks are put. -/
theorem part32 (c : Dev nD) (v2 : BitVec 32) (w : BitVec 32) {Q : BitVec 32 → sProp 𝕄} :
    awSt m K c 9 ⊢ iprop((∀ w, awSt m K c 11 -∗ Q w) -∗ runs c (given k0_part32 c v2 w) Q) := by
  rw [given, k0_part32_eq_skeleton]
  unfold k0_part32_skel
  simp only [Prog.lift, Prog.bind_op, Prog.bind_ret, Prog.pure_eq_ret]
  iintro H Hk
  iapply (aw_next m K c ⟨9, by decide⟩ 10#32 rfl) $$ H; iintro H
  iapply (take_next m K c ⟨9, lt15 rfl⟩ 10#32 rfl k0_pay35 rfl) $$ H; iintro H
  iapply (aw_next m K c ⟨10, by decide⟩ 11#32 rfl) $$ H; iintro H
  iapply (take_next m K c ⟨10, lt15 rfl⟩ 11#32 rfl k0_pay36 rfl) $$ H; iintro H
  iapply (runs_ret c); iapply Hk; iexact H

/-- Part 33: the rows of thirteen finished chunks are put. -/
theorem part33 (c : Dev nD) (v2 : BitVec 32) (w : BitVec 32) {Q : (Σ' (v1080 : BitVec 32), BitVec 32) → sProp 𝕄} :
    awSt m K c 11 ⊢ iprop((∀ w w', awSt m K c 13 -∗ Q ⟨w, w'⟩) -∗ runs c (given k0_part33 c v2 w) Q) := by
  rw [given, k0_part33_eq_skeleton]
  unfold k0_part33_skel
  simp only [Prog.lift, Prog.bind_op, Prog.bind_ret, Prog.pure_eq_ret]
  iintro H Hk
  iapply (aw_next m K c ⟨11, by decide⟩ 12#32 rfl) $$ H; iintro H
  iapply (take_next m K c ⟨11, lt15 rfl⟩ 12#32 rfl k0_pay37 rfl) $$ H; iintro H
  iapply (aw_next m K c ⟨12, by decide⟩ 13#32 rfl) $$ H; iintro H
  iapply (take_next m K c ⟨12, lt15 rfl⟩ 13#32 rfl k0_pay38 rfl) $$ H; iintro H
  iapply (runs_ret c); iapply Hk; iexact H

/-- Part 34: the rows of all fifteen finished chunks are put. -/
theorem part34 (c : Dev nD) (v2 : BitVec 32) (w w' : BitVec 32) {Q : PUnit → sProp 𝕄} :
    awSt m K c 13 ⊢ iprop((awSt m K c 15 -∗ Q ⟨⟩) -∗ runs c (given k0_part34 c v2 w w') Q) := by
  rw [given, k0_part34_eq_skeleton]
  unfold k0_part34_skel
  simp only [Prog.lift, Prog.bind_op, Prog.bind_ret, Prog.pure_eq_ret]
  iintro H Hk
  iapply (aw_next m K c ⟨13, by decide⟩ 14#32 rfl) $$ H; iintro H
  iapply (take_next m K c ⟨13, lt15 rfl⟩ 14#32 rfl k0_pay39 rfl) $$ H; iintro H
  iapply (aw_next m K c ⟨14, by decide⟩ 15#32 rfl) $$ H; iintro H
  iapply (take_next m K c ⟨14, lt15 rfl⟩ 15#32 rfl k0_pay40 rfl) $$ H; iintro H
  iapply (runs_ret c); iapply Hk; iexact H

/-! ## The sends are waited for -/

/-- Part 35: waits for six sends of the first exchange. -/
theorem part35 (c : Dev nD) {Q : PUnit → sProp 𝕄} :
    (swW m c).st K 0 ⊢ iprop(((swW m c).st K 6 -∗ Q ⟨⟩) -∗ runs c (given k0_part35 c) Q) := by
  rw [given, k0_part35_eq_skeleton]
  unfold k0_part35_skel
  simp only [Prog.lift, Prog.bind_op, Prog.bind_ret, Prog.pure_eq_ret]
  iintro H Hk
  iapply (sw_step m K c ⟨0, by decide⟩ 1#32 rfl) $$ H; iintro H
  iapply (sw_step m K c ⟨1, by decide⟩ 2#32 rfl) $$ H; iintro H
  iapply (sw_step m K c ⟨2, by decide⟩ 3#32 rfl) $$ H; iintro H
  iapply (sw_step m K c ⟨3, by decide⟩ 4#32 rfl) $$ H; iintro H
  iapply (sw_step m K c ⟨4, by decide⟩ 5#32 rfl) $$ H; iintro H
  iapply (sw_step m K c ⟨5, by decide⟩ 6#32 rfl) $$ H; iintro H
  iapply (runs_ret c); iapply Hk; iexact H

/-- Part 36: waits for sends of the first exchange up to the twelfth. -/
theorem part36 (c : Dev nD) {Q : PUnit → sProp 𝕄} :
    (swW m c).st K 6 ⊢ iprop(((swW m c).st K 12 -∗ Q ⟨⟩) -∗ runs c (given k0_part36 c) Q) := by
  rw [given, k0_part36_eq_skeleton]
  unfold k0_part36_skel
  simp only [Prog.lift, Prog.bind_op, Prog.bind_ret, Prog.pure_eq_ret]
  iintro H Hk
  iapply (sw_step m K c ⟨6, by decide⟩ 7#32 rfl) $$ H; iintro H
  iapply (sw_step m K c ⟨7, by decide⟩ 8#32 rfl) $$ H; iintro H
  iapply (sw_step m K c ⟨8, by decide⟩ 9#32 rfl) $$ H; iintro H
  iapply (sw_step m K c ⟨9, by decide⟩ 10#32 rfl) $$ H; iintro H
  iapply (sw_step m K c ⟨10, by decide⟩ 11#32 rfl) $$ H; iintro H
  iapply (sw_step m K c ⟨11, by decide⟩ 12#32 rfl) $$ H; iintro H
  iapply (runs_ret c); iapply Hk; iexact H

/-- Part 37: waits for the rest of them and for four sends of the second exchange. -/
theorem part37 (c : Dev nD) {Q : PUnit → sProp 𝕄} (A B : sProp 𝕄) (h : iprop((swW m c).st K 15 ∗ A) ⊢ iprop((asW m c).st K 0 ∗ B)) :
    iprop((swW m c).st K 12 ∗ A) ⊢ iprop((((asW m c).st K 4 ∗ B) -∗ Q ⟨⟩) -∗ runs c (given k0_part37 c) Q) := by
  rw [given, k0_part37_eq_skeleton]
  unfold k0_part37_skel
  simp only [Prog.lift, Prog.bind_op, Prog.bind_ret, Prog.pure_eq_ret]
  iintro ⟨H, HA⟩ Hk
  iapply (sw_step m K c ⟨12, by decide⟩ 13#32 rfl) $$ H; iintro H
  iapply (sw_step m K c ⟨13, by decide⟩ 14#32 rfl) $$ H; iintro H
  iapply (sw_step m K c ⟨14, by decide⟩ 15#32 rfl) $$ H; iintro H
  ihave H := h $$ [H HA]
  · isplitl [H]; · iexact H
    iexact HA
  icases H with ⟨H, HB⟩
  iapply (as_step m K c ⟨0, by decide⟩ 1#32 rfl) $$ H; iintro H
  iapply (as_step m K c ⟨1, by decide⟩ 2#32 rfl) $$ H; iintro H
  iapply (as_step m K c ⟨2, by decide⟩ 3#32 rfl) $$ H; iintro H
  iapply (as_step m K c ⟨3, by decide⟩ 4#32 rfl) $$ H; iintro H
  iapply (runs_ret c); iapply Hk
  isplitl [H]; · iexact H
  iexact HB

/-- Part 38: waits for sends of the second exchange up to the twelfth. -/
theorem part38 (c : Dev nD) {Q : PUnit → sProp 𝕄} :
    (asW m c).st K 4 ⊢ iprop(((asW m c).st K 12 -∗ Q ⟨⟩) -∗ runs c (given k0_part38 c) Q) := by
  rw [given, k0_part38_eq_skeleton]
  unfold k0_part38_skel
  simp only [Prog.lift, Prog.bind_op, Prog.bind_ret, Prog.pure_eq_ret]
  iintro H Hk
  iapply (as_step m K c ⟨4, by decide⟩ 5#32 rfl) $$ H; iintro H
  iapply (as_step m K c ⟨5, by decide⟩ 6#32 rfl) $$ H; iintro H
  iapply (as_step m K c ⟨6, by decide⟩ 7#32 rfl) $$ H; iintro H
  iapply (as_step m K c ⟨7, by decide⟩ 8#32 rfl) $$ H; iintro H
  iapply (as_step m K c ⟨8, by decide⟩ 9#32 rfl) $$ H; iintro H
  iapply (as_step m K c ⟨9, by decide⟩ 10#32 rfl) $$ H; iintro H
  iapply (as_step m K c ⟨10, by decide⟩ 11#32 rfl) $$ H; iintro H
  iapply (as_step m K c ⟨11, by decide⟩ 12#32 rfl) $$ H; iintro H
  iapply (runs_ret c); iapply Hk; iexact H

end Cert.AllPairs

end
-- ==== Proof.Join.lean ====
/-
  Between the phases of the kernel's body, and what is whole again at its end.
-/
module

public import proofs.«01_k».proof.Proof.Parts3

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## Between the phases -/

def barTok (c : Dev nD) (r : Fin 15) : sProp 𝕄 := dutyTok ER (bar (up c r)) 0 c
/-- A device's positions at its send semaphores of the first exchange, of the second, and at the four entries no one pays. -/
def rsSPos (c : Dev nD) (r : Fin 15) : sProp 𝕄 := atPos ER (rsS c (up c r)) 0 ∅ 0
def agSPos (c : Dev nD) (r : Fin 15) : sProp 𝕄 := atPos ER (agS c (up c r)) 0 ∅ 0
def selfPos (c : Dev nD) : sProp 𝕄 :=
  iprop(atPos ER (rsS c c) 0 ∅ 0 ∗ atPos ER (rsR c c) 0 ∅ 0 ∗ atPos ER (agS c c) 0 ∅ 0 ∗ atPos ER (agR c c) 0 ∅ 0)

/-- A device's landing buffers, cut into entries: what its signals hand over, and its own two entries. -/
theorem sig_ready (c : Dev nD) (f : Buf (Elt F) ((c : Thread nD τ).loc cc0_scratch5)) (g : Buf (Elt F) ((c : Thread nD τ).loc cc0_scratch6)) :
    iprop(chain (barTok c) all ∗ buf c cc0_scratch5 f ∗ buf c cc0_scratch6 g)
      ⊢ iprop(chain (sigItem (F := F) c) all ∗ room (F := F) c (slot rsM c) ∗ room (F := F) c (slot agM c)) := by
  have h1 : buf c cc0_scratch5 f ⊢ iprop(room (F := F) c (slot rsM c) ∗ chain (fun r => room (F := F) c (slot rsM (up c r))) all) := by
    rw [← ring_up c (fun j => room (F := F) c (slot rsM j))]; exact rs_cut c f
  have h2 : buf c cc0_scratch6 g ⊢ iprop(room (F := F) c (slot agM c) ∗ chain (fun r => room (F := F) c (slot agM (up c r))) all) := by
    rw [← ring_up c (fun j => room (F := F) c (slot agM j))]; exact ag_cut c g
  have h3 : iprop(chain (fun r => room (F := F) c (slot rsM (up c r))) all ∗ chain (fun r => room (F := F) c (slot agM (up c r))) all)
      ⊢ chain (fun r => barPay (F := F) (up c r) c) all := chain_zip fun r => BIBase.Entails.refl
  have h4 : iprop(chain (barTok (F := F) c) all ∗ chain (fun r => barPay (F := F) (up c r) c) all) ⊢ chain (sigItem (F := F) c) all := chain_zip fun r => BIBase.Entails.refl
  iintro ⟨Ht, H5, H6⟩
  ihave H5 := h1 $$ H5
  ihave H6 := h2 $$ H6
  icases H5 with ⟨Ho5, H5⟩
  icases H6 with ⟨Ho6, H6⟩
  isplitl [Ht H5 H6]
  · iapply h4; isplitl [Ht]; · iexact Ht
    iapply h3; isplitl [H5]; · iexact H5
    iexact H6
  isplitl [Ho5]; · iexact Ho5
  iexact Ho6

/-- What is held before the first barrier signal. -/
theorem sigSt_begin (c : Dev nD) : iprop(ctx m K ∗ debts c (O₀ c) ∗ chain (sigItem (F := F) c) all) ⊢ sigSt m K c 0 := by
  unfold sigSt O₀
  rw [show all.drop 0 = all from rfl]

variable {m K} in
/-- The start of a phase of waits, -/
theorem Waiting.begin {c : Dev nD} (w : Waiting (F := F) m c) : iprop(ctx m K ∗ debts c w.owed ∗ chain w.item all) ⊢ w.st K 0 := by
  unfold Waiting.st
  rw [show all.drop 0 = all from rfl, show all.take 0 = [] from rfl]
  iintro ⟨#Hx, HO, HS⟩
  isplitr; · iexact Hx
  isplitl [HO]; · iexact HO
  isplitl [HS]; · iexact HS
  iempintro
variable {m K} in
/-- and its end. -/
theorem Waiting.finish {c : Dev nD} (w : Waiting (F := F) m c) : w.st K 15 ⊢ iprop(debts c w.owed ∗ chain w.done all) := by
  unfold Waiting.st
  rw [show all.drop 15 = [] from rfl, show all.take 15 = all from rfl]
  iintro ⟨-, HO, -, HS⟩
  isplitl [HO]; · iexact HO
  iexact HS

/-- After all sends of the first exchange its waits may begin. -/
theorem rw_begin (c : Dev nD) : iprop(rsSt m K c 15 ∗ chain (rwW m c).item all) ⊢ iprop((rwW m c).st K 0 ∗ chain (rsSent (F := F) c) all) := by
  have h := (rwW m c).begin (K := K)
  unfold rsSt
  rw [show all.drop 15 = [] from rfl, show all.take 15 = all from rfl, show dueRS c [] = 0 from rfl, add_zero]
  iintro ⟨⟨#Hx, HO, -, Hs⟩, HS⟩
  isplitr [Hs]
  · iapply h
    isplitr; · iexact Hx
    isplitl [HO]; · iexact HO
    iexact HS
  iexact Hs

/-- The second exchange, ready to be sent. -/
theorem ag_begin (c : Dev nD) : iprop(ctx m K ∗ (rwW m c).st K 15 ∗ buf c cc0_scratch4 (agC m c) ∗ chain (agTok (F := F) c) all
      ∗ chain (fun r => room (F := F) (up c r) (slot agM c)) all) ⊢ iprop(agSt m K c 0 ∗ chain (rwW m c).done all) := by
  have h := (rwW m c).finish (K := K)
  have h3 : iprop(chain (agTok (F := F) c) all ∗ chain (fun r => room (F := F) (up c r) (slot agM c)) all) ⊢ chain (agItem (F := F) c) all := by
    refine chain_zip fun r => ?_
    unfold agTok agItem
    iintro ⟨⟨H1, H2⟩, H3⟩
    isplitl [H1]; · iexact H1
    isplitl [H2]; · iexact H2
    iexact H3
  unfold agSt
  rw [agb_full, show all.drop 0 = all from rfl, show all.take 0 = [] from rfl]
  iintro ⟨#Hx, H, Hb, Ht, Hr⟩
  ihave H := h $$ H
  icases H with ⟨HO, Hd⟩
  isplitr [Hd]
  · isplitr; · iexact Hx
    isplitl [HO]; · iexact HO
    isplitl [Hb]; · iexact Hb
    isplitl
    · iapply h3; isplitl [Ht]; · iexact Ht
      iexact Hr
    iempintro
  iexact Hd

/-- After all sends of the second exchange its waits may begin. -/
theorem aw_begin (c : Dev nD) : iprop(agSt m K c 15 ∗ (chain (awW m c).item all ∗ outPts c (outC m c 0)))
    ⊢ iprop(awSt m K c 0 ∗ agPts m c (restS 15) ∗ chain (agSent (F := F) c) all) := by
  have h := (awW m c).begin (K := K)
  unfold agSt awSt
  rw [show all.drop 15 = [] from rfl, show all.take 15 = all from rfl]
  iintro ⟨⟨#Hx, HO, Hp, -, Hs⟩, HS, Ho⟩
  isplitr [Hp Hs]
  · isplitr [Ho]
    · iapply h
      isplitr; · iexact Hx
      isplitl [HO]; · iexact HO
      iexact HS
    iexact Ho
  isplitl [Hp]; · iexact Hp
  iexact Hs

/-- The waits for the first exchange's sends may begin. -/
theorem sw_begin (c : Dev nD) : iprop(ctx m K ∗ debts c 0 ∗ chain (rsSent (F := F) c) all ∗ chain (rsSPos (F := F) c) all) ⊢ (swW m c).st K 0 := by
  have h := (swW m c).begin (K := K)
  have h2 : iprop(chain (rsSent (F := F) c) all ∗ chain (rsSPos (F := F) c) all) ⊢ chain (swW m c).item all := chain_zip fun r => BIBase.Entails.refl
  iintro ⟨#Hx, HO, H1, H2⟩
  iapply h
  isplitr; · iexact Hx
  isplitl [HO]; · iexact HO
  iapply h2; isplitl [H1]; · iexact H1
  iexact H2

/-- After the waits for the first exchange's sends, those for the second's may begin. -/
theorem as_begin (c : Dev nD) : iprop((swW m c).st K 15 ∗ (ctx m K ∗ chain (agSent (F := F) c) all ∗ chain (agSPos (F := F) c) all))
    ⊢ iprop((asW m c).st K 0 ∗ chain (swW m c).done all) := by
  have h0 := (swW m c).finish (K := K)
  have h := (asW m c).begin (K := K)
  have h2 : iprop(chain (agSent (F := F) c) all ∗ chain (agSPos (F := F) c) all) ⊢ chain (asW m c).item all := chain_zip fun r => BIBase.Entails.refl
  iintro ⟨H, #Hx, H1, H2⟩
  ihave H := h0 $$ H
  icases H with ⟨HO, Hd⟩
  isplitr [Hd]
  · iapply h
    isplitr; · iexact Hx
    isplitl [HO]; · iexact HO
    iapply h2; isplitl [H1]; · iexact H1
    iexact H2
  iexact Hd

/-! ## What is whole again at the end -/

/-- The landing buffer of the first exchange, and its semaphores; -/
theorem rs_end (c : Dev nD) : iprop(chain (rwW m c).done all ∗ room (F := F) c (slot rsM c))
    ⊢ iprop((∃ f, buf (F := F) c cc0_scratch5 f) ∗ chain (fun r => (semVal (rsR c (dn c r)) 0 : sProp 𝕄)) all) := by
  have h1 : chain (rwW m c).done all ⊢ iprop(chain (fun r => room (F := F) c (slot rsM (dn c r))) all ∗ chain (fun r => (semVal (rsR c (dn c r)) 0 : sProp 𝕄)) all) :=
    chain_unzip fun r => sep_mono_left (hold_room c _ _)
  have h2 : iprop(room (F := F) c (slot rsM c) ∗ chain (fun r => room (F := F) c (slot rsM (dn c r))) all) ⊢ iprop(∃ f, buf (F := F) c cc0_scratch5 f) := by
    rw [← ring_dn c (fun j => room (F := F) c (slot rsM j))]; exact rs_join c
  iintro ⟨H, Ho⟩
  ihave H := h1 $$ H
  icases H with ⟨H, Hz⟩
  isplitr [Hz]
  · iapply h2; isplitl [Ho]; · iexact Ho
    iexact H
  iexact Hz
/-- of the second; -/
theorem ag_end (c : Dev nD) : iprop(chain (awW m c).done all ∗ room (F := F) c (slot agM c))
    ⊢ iprop((∃ f, buf (F := F) c cc0_scratch6 f) ∗ chain (fun r => (semVal (agR c (dn c r)) 0 : sProp 𝕄)) all) := by
  have h1 : chain (awW m c).done all ⊢ iprop(chain (fun r => room (F := F) c (slot agM (dn c r))) all ∗ chain (fun r => (semVal (agR c (dn c r)) 0 : sProp 𝕄)) all) :=
    chain_unzip fun r => sep_mono_left (hold_room c _ _)
  have h2 : iprop(room (F := F) c (slot agM c) ∗ chain (fun r => room (F := F) c (slot agM (dn c r))) all) ⊢ iprop(∃ f, buf (F := F) c cc0_scratch6 f) := by
    rw [← ring_dn c (fun j => room (F := F) c (slot agM j))]; exact ag_join c
  iintro ⟨H, Ho⟩
  ihave H := h1 $$ H
  icases H with ⟨H, Hz⟩
  isplitr [Hz]
  · iapply h2; isplitl [Ho]; · iexact Ho
    iexact H
  iexact Hz
/-- the send buffer of the first exchange, and its semaphores; -/
theorem sb_end (c : Dev nD) : iprop(chain (swW m c).done all ∗ rsSPay m c c)
    ⊢ iprop((∃ f, buf (F := F) c cc0_scratch3 f) ∗ chain (fun r => (semVal (rsS c (up c r)) 0 : sProp 𝕄)) all) := by
  have h1 : chain (swW m c).done all ⊢ iprop(chain (fun r => rsSPay m c (up c r)) all ∗ chain (fun r => (semVal (rsS c (up c r)) 0 : sProp 𝕄)) all) :=
    chain_unzip fun r => BIBase.Entails.refl
  have h2 : iprop(rsSPay m c c ∗ chain (fun r => rsSPay m c (up c r)) all) ⊢ buf c cc0_scratch3 (sbC m c) := by
    rw [← ring_up c (fun j => rsSPay m c j), sb_cut]
  iintro ⟨H, Ho⟩
  ihave H := h1 $$ H
  icases H with ⟨H, Hz⟩
  isplitr [Hz]
  · iexists _; iapply h2; isplitl [Ho]; · iexact Ho
    iexact H
  iexact Hz
/-- of the second. -/
theorem agb_end (c : Dev nD) : iprop(chain (asW m c).done all ∗ agPts m c (restS 15))
    ⊢ iprop((∃ f, buf (F := F) c cc0_scratch4 f) ∗ chain (fun r => (semVal (agS c (up c r)) 0 : sProp 𝕄)) all) := by
  have h1 : chain (asW m c).done all ⊢ iprop(chain (fun r => agPts m c (pieceS r.val)) all ∗ chain (fun r => (semVal (agS c (up c r)) 0 : sProp 𝕄)) all) :=
    chain_unzip fun r => by
      show iprop(agSPay m c (up c r) ∗ semVal (agS c (up c r)) 0) ⊢ iprop(agPts m c (pieceS r.val) ∗ semVal (agS c (up c r)) 0)
      unfold agSPay; rw [place_up]
  have h2 : iprop(agPts m c (restS 15) ∗ chain (fun r => agPts m c (pieceS r.val)) all) ⊢ buf c cc0_scratch4 (agC m c) := by
    rw [agb_full]; exact ag_share m c 15 le_rfl
  iintro ⟨H, Ho⟩
  ihave H := h1 $$ H
  icases H with ⟨H, Hz⟩
  isplitr [Hz]
  · iexists _; iapply h2; isplitl [Ho]; · iexact Ho
    iexact H
  iexact Hz

/-- The entries no one pays are closed as they are. -/
theorem self_close (c : Dev nD) (q : DmaSem sig) (hq : 4 ≤ q.val) (h : dmaDuties c (useOf q) = ∅) :
    iprop(ctx m K ∗ atPos ER ((c : Thread nD τ), .dma q) 0 ∅ 0) ⊢ (|={Set.univ}=> semVal ((c : Thread nD τ), .dma q) 0 : sProp 𝕄) := by
  iintro ⟨#Hx, Ha⟩
  iapply (Rounds.cell_close ER (sched m) (Set.mem_univ (K ((c : Thread nD τ), .dma q))) (fun h => h) (R := 0) (duties_self m c h))
  isplitr; · iapply (ctx_inv m K (mem_dma c q hq)); iexact Hx
  iexact Ha

/-- A device's semaphores of both exchanges, at zero. -/
def zeros (c : Dev nD) : sProp 𝕄 :=
  iprop((bigSep Finset.univ fun j : Dev nD => semVal (rsS c j) 0) ∗ (bigSep Finset.univ fun j : Dev nD => semVal (rsR c j) 0)
    ∗ (bigSep Finset.univ fun j : Dev nD => semVal (agS c j) 0) ∗ (bigSep Finset.univ fun j : Dev nD => semVal (agR c j) 0))

/-- When every wait is done, all of the exchange's semaphores are closed at zero. -/
theorem zeros_intro (c : Dev nD) : iprop(ctx m K ∗ selfPos c ∗ chain (fun r => (semVal (rsS c (up c r)) 0 : sProp 𝕄)) all
      ∗ chain (fun r => (semVal (rsR c (dn c r)) 0 : sProp 𝕄)) all ∗ chain (fun r => (semVal (agS c (up c r)) 0 : sProp 𝕄)) all
      ∗ chain (fun r => (semVal (agR c (dn c r)) 0 : sProp 𝕄)) all) ⊢ (|={Set.univ}=> zeros c : sProp 𝕄) := by
  unfold selfPos zeros
  rw [ring_up c (fun j => (semVal (rsS c j) 0 : sProp 𝕄)), ring_dn c (fun j => (semVal (rsR c j) 0 : sProp 𝕄)),
    ring_up c (fun j => (semVal (agS c j) 0 : sProp 𝕄)), ring_dn c (fun j => (semVal (agR c j) 0 : sProp 𝕄))]
  iintro ⟨#Hx, ⟨H1, H2, H3, H4⟩, Z1, Z2, Z3, Z4⟩
  imod (self_close m K c (rsSQ c) (own_rsS c) (self_rsS c)) $$ [H1] with H1
  · isplitr; · iexact Hx
    iexact H1
  imod (self_close m K c (rsRQ c) (own_rsR c) (self_rsR c)) $$ [H2] with H2
  · isplitr; · iexact Hx
    iexact H2
  imod (self_close m K c (agSQ c) (own_agS c) (self_agS c)) $$ [H3] with H3
  · isplitr; · iexact Hx
    iexact H3
  imod (self_close m K c (agRQ c) (own_agR c) (self_agR c)) $$ [H4] with H4
  · isplitr; · iexact Hx
    iexact H4
  imodintro
  isplitl [H1 Z1]; · isplitl [H1]; · iexact H1
                     iexact Z1
  isplitl [H2 Z2]; · isplitl [H2]; · iexact H2
                     iexact Z2
  isplitl [H3 Z3]; · isplitl [H3]; · iexact H3
                     iexact Z3
  isplitl [H4]; · iexact H4
  iexact Z4

end Cert.AllPairs

end
-- ==== Proof.Body.lean ====
/-
  The kernel's parts, one after another.
-/
module

public import proofs.«01_k».proof.Proof.Join

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- A program runs if its first piece runs to where the rest runs. -/
theorem runs_bind (c : Dev nD) {α β : Type} {p : Prog (TpuEff nD τ sig (Elt F) Λ₀ .tc) α} {k : α → Prog (TpuEff nD τ sig (Elt F) Λ₀ .tc) β} {Q : β → sProp 𝕄} :
    runs c p (fun a => runs c (k a) Q) ⊢ runs c (p >>= k) Q := by
  unfold runs; rw [wp_bind]

/-- What the run of the parts starts from: the signals ready, -/
def before (c : Dev nD) (f3 : (cc0_stg3_0 : Ref sig .tc).ty.Contents (Elt F)) (g3 : (cc0_scratch3 : Ref sig .tc).ty.Contents (Elt F))
    (g4 : (cc0_scratch4 : Ref sig .tc).ty.Contents (Elt F)) : sProp 𝕄 :=
  iprop(sigSt m K c 0 ∗ (kvBegin m c 0 ∗ kvBegin m c 1 ∗ kvBegin m c 2 ∗ kvBegin m c 3)
    ∗ (atPos ER (kvC c 0) 0 ∅ 0 ∗ atPos ER (kvC c 1) 0 ∅ 0 ∗ atPos ER (kvC c 2) 0 ∅ 0 ∗ atPos ER (kvC c 3) 0 ∅ 0)
    ∗ (cred (tallyAt (bar c) () 15) ∗ atPos ER (bar c) 0 ∅ 0) ∗ chain (rsTok (F := F) c) all ∗ chain (agTok (F := F) c) all
    ∗ chain (rwW m c).item all ∗ chain (awW m c).item all ∗ chain (rsSPos (F := F) c) all ∗ chain (agSPos (F := F) c) all
    ∗ (buf c cc0_stg0_0 (xC m c) ∗ buf c cc0_stg1_0 (wqC m c) ∗ buf c cc0_stg2_0 (woC m c) ∗ outPts c f3) ∗ buf c cc0_scratch3 g3 ∗ buf c cc0_scratch4 g4)
/-- and what it leaves, one wait before the end. -/
def after (c : Dev nD) : sProp 𝕄 :=
  iprop((asW m c).st K 14 ∗ heads m c ∗ kvBack m c
    ∗ (buf c cc0_stg0_0 (xC m c) ∗ buf c cc0_stg1_0 (wqC m c) ∗ buf c cc0_stg2_0 (woC m c) ∗ outPts c (outC m c 15))
    ∗ semVal (bar c) 0 ∗ rsSPay m c c ∗ agPts m c (restS 15) ∗ chain (rwW m c).done all ∗ chain (awW m c).done all ∗ chain (swW m c).done all)

set_option maxHeartbeats 1000000 in
/-- The whole body: from what is held before it to what is held after it, returning the device's own number. -/
theorem part39 (c : Dev nD) {f3 : (cc0_stg3_0 : Ref sig .tc).ty.Contents (Elt F)} {g3 : (cc0_scratch3 : Ref sig .tc).ty.Contents (Elt F)}
    {g4 : (cc0_scratch4 : Ref sig .tc).ty.Contents (Elt F)} {Q : Dev nD → sProp 𝕄} :
    iprop(ctx m K ∗ before m K c f3 g3 g4) ⊢ iprop((after m K c -∗ Q c) -∗ runs c (given k0_part39) Q) := by
  rw [given, k0_part39_eq_skeleton]
  unfold k0_part39_skel before
  iintro ⟨#Hx, H, ⟨Hb0, Hb1, Hb2, Hb3⟩, ⟨Ha0, Ha1, Ha2, Ha3⟩, Hbar, Hrt, Hat, Hri, Hai, Hrp, Hap, ⟨Hbx, Hbq, Hbo, Ho⟩, H3, H4⟩ Hk
  iapply (runs_bind c); iapply (part1 m K c) $$ H; iintro %v2 %v24 %w1 H
  iapply (runs_bind c); iapply (part2 m K c _ _ _) $$ H; iintro %v48 %w2 H
  iapply (runs_bind c); iapply (part3 m K c _ _ _) $$ [H Hb0]
  · isplitl [H]; · iexact H
    isplitr; · iexact Hx
    iexact Hb0
  iintro ⟨HO, Hs0⟩
  iapply (runs_bind c); iapply (part4 m K c _) $$ [Hb1 Hb2 Hb3 Hbx Hbq]
  · isplitr; · iexact Hx
    isplitl [Hb1 Hb2 Hb3]
    · isplitl [Hb1]; · iexact Hb1
      isplitl [Hb2]; · iexact Hb2
      iexact Hb3
    isplitl [Hbx]; · iexact Hbx
    iexact Hbq
  iintro ⟨⟨Hs1, Hs2, Hs3⟩, Hbx, Hbq⟩
  iapply (runs_bind c); iapply (part5 m K c _) $$ [HO Hs0 Hs1 Hs2 Hs3 Ha0 Ha1 Ha2 Ha3]
  · unfold kvWait
    isplitr; · iexact Hx
    isplitl [HO]; · iexact HO
    isplitl [Hs0 Ha0]
    · isplitl [Hs0]; · iexact Hs0
      iexact Ha0
    isplitl [Hs1 Ha1]
    · isplitl [Hs1]; · iexact Hs1
      iexact Ha1
    isplitl [Hs2 Ha2]
    · isplitl [Hs2]; · iexact Hs2
      iexact Ha2
    isplitl [Hs3]; · iexact Hs3
    iexact Ha3
  iintro ⟨HO, Hh, Hkv⟩
  iapply (runs_bind c); iapply (part6 m c _ _) $$ Hh; iintro Hh
  iapply (runs_bind c); iapply (part7 m c _ _ _) $$ Hh; iintro Hh
  iapply (runs_bind c); iapply (part8 m c _ _) $$ Hh; iintro Hh
  iapply (runs_bind c); iapply (part9 m c _ _ _ _ _ _ _ _ rfl) $$ [Hh Hbo Ho H3]
  · isplitl [Hh]; · iexact Hh
    isplitl [Hbo]; · iexact Hbo
    isplitl [Ho]; · iexact Ho
    iexact H3
  iintro ⟨Hh, Hbo, Ho, H3⟩
  iapply (runs_bind c); iapply (part10 m K c _) $$ [HO Hbar Hrt H3]
  · isplitr; · iexact Hx
    isplitl [HO]; · iexact HO
    isplitl [Hbar]; · iexact Hbar
    isplitl [Hrt]; · iexact Hrt
    iexact H3
  iintro ⟨H, Hz, Hself, Hrooms⟩
  iapply (runs_bind c); iapply (part11 m K c _) $$ H; iintro %_ %_ H
  iapply (runs_bind c); iapply (part12 m K c _ _ _) $$ H; iintro H
  iapply (runs_bind c); iapply (part13 m K c _) $$ H; iintro H
  iapply (runs_bind c); iapply (part14 m K c _) $$ H; iintro %_ H
  iapply (runs_bind c); iapply (part15 m K c _ _) $$ [H Ho]
  · isplitl [H]; · iexact H
    iexact Ho
  iintro %_ %_ ⟨H, Ho⟩
  ihave H := (rw_begin m K c) $$ [H Hri]
  · isplitl [H]; · iexact H
    iexact Hri
  icases H with ⟨H, Hrs⟩
  iapply (runs_bind c); iapply (part16 m K c _ _) $$ H; iintro H
  iapply (runs_bind c); iapply (part17 m K c _) $$ H; iintro H
  iapply (runs_bind c); iapply (part18 m K c _) $$ H; iintro %_ H
  iapply (runs_bind c); iapply (part19 m K c _ _) $$ H; iintro %_ H
  iapply (runs_bind c); iapply (part20 m K c _ _) $$ H; iintro %_ %_ %_ H
  iapply (runs_bind c); iapply (part21 m K c _ _ _ _) $$ H; iintro %_ H
  iapply (runs_bind c); iapply (part22 m K c _ _ _) $$ [H Ho H4]
  · isplitl [H]; · iexact H
    isplitl [Ho]; · iexact Ho
    iexact H4
  iintro %_ %_ ⟨H, Ho, H4⟩
  ihave H := (ag_begin m K c) $$ [H H4 Hat Hrooms]
  · isplitr; · iexact Hx
    isplitl [H]; · iexact H
    isplitl [H4]; · iexact H4
    isplitl [Hat]; · iexact Hat
    iexact Hrooms
  icases H with ⟨H, Hrd⟩
  iapply (runs_bind c); iapply (part23 m K c _ _ _) $$ H; iintro H
  iapply (runs_bind c); iapply (part24 m K c _) $$ H; iintro H
  iapply (runs_bind c); iapply (part25 m K c _) $$ H; iintro H
  iapply (runs_bind c); iapply (part26 m K c _) $$ H; iintro H
  iapply (runs_bind c); iapply (part27 m K c _ _ (aw_begin m K c)) $$ [H Hai Ho]
  · isplitl [H]; · iexact H
    isplitl [Hai]; · iexact Hai
    iexact Ho
  iintro %_ ⟨H, Hpts, Hsent⟩
  iapply (runs_bind c); iapply (part28 m K c _ _) $$ H; iintro %_ H
  iapply (runs_bind c); iapply (part29 m K c _ _) $$ H; iintro %_ H
  iapply (runs_bind c); iapply (part30 m K c _ _) $$ H; iintro %_ H
  iapply (runs_bind c); iapply (part31 m K c _ _) $$ H; iintro %_ H
  iapply (runs_bind c); iapply (part32 m K c _ _) $$ H; iintro %_ H
  iapply (runs_bind c); iapply (part33 m K c _ _) $$ H; iintro %_ %_ H
  iapply (runs_bind c); iapply (part34 m K c _ _ _) $$ H; iintro H
  ihave H := (Entails.of_eq (show awSt m K c 15 = iprop((awW m c).st K 15 ∗ outPts c (outC m c 15)) from rfl)) $$ H
  icases H with ⟨H, Ho⟩
  ihave H := ((awW m c).finish (K := K)) $$ H
  icases H with ⟨HO, Had⟩
  ihave H := (sw_begin m K c) $$ [HO Hrs Hrp]
  · isplitr; · iexact Hx
    isplitl [HO]; · iexact HO
    isplitl [Hrs]; · iexact Hrs
    iexact Hrp
  iapply (runs_bind c); iapply (part35 m K c) $$ H; iintro H
  iapply (runs_bind c); iapply (part36 m K c) $$ H; iintro H
  iapply (runs_bind c); iapply (part37 m K c _ _ (as_begin m K c)) $$ [H Hsent Hap]
  · isplitl [H]; · iexact H
    isplitr; · iexact Hx
    isplitl [Hsent]; · iexact Hsent
    iexact Hap
  iintro ⟨H, Hsd⟩
  iapply (runs_bind c); iapply (part38 m K c) $$ H; iintro H
  iapply (runs_bind c); iapply (as_step m K c ⟨12, by decide⟩ 13#32 rfl) $$ H; iintro H
  iapply (runs_ret c)
  iapply (runs_bind c); iapply (as_step m K c ⟨13, by decide⟩ 14#32 rfl) $$ H; iintro H
  iapply (runs_ret c)
  iapply (runs_ret c)
  iapply Hk
  unfold after
  isplitl [H]; · iexact H
  isplitl [Hh]; · iexact Hh
  isplitl [Hkv]; · iexact Hkv
  isplitl [Hbx Hbq Hbo Ho]
  · isplitl [Hbx]; · iexact Hbx
    isplitl [Hbq]; · iexact Hbq
    isplitl [Hbo]; · iexact Hbo
    iexact Ho
  isplitl [Hz]; · iexact Hz
  isplitl [Hself]; · iexact Hself
  isplitl [Hpts]; · iexact Hpts
  isplitl [Hrd]; · iexact Hrd
  isplitl [Had]; · iexact Had
  iexact Hsd

end Cert.AllPairs

end
-- ==== Proof.Whole.lean ====
/-
  The kernel's whole body on one device.
-/
module

public import proofs.«01_k».proof.Proof.Body

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## What a device starts with, and what it ends with -/

/-- The payments device `c` makes; -/
def tokens (c : Dev nD) : sProp 𝕄 :=
  iprop(chain (barTok (F := F) c) all ∗ (dutyTok ER (kvC c 0) 0 0 ∗ dutyTok ER (kvC c 1) 0 0 ∗ dutyTok ER (kvC c 2) 0 0 ∗ dutyTok ER (kvC c 3) 0 0)
    ∗ chain (rsTok (F := F) c) all ∗ chain (agTok (F := F) c) all)
/-- what other devices owe it; -/
def credits (c : Dev nD) : sProp 𝕄 :=
  iprop(cred (tallyAt (bar c) () 15) ∗ chain (fun r => (cred (tallyAt (rsR c (dn c r)) () N) : sProp 𝕄)) all
    ∗ chain (fun r => (cred (tallyAt (agR c (dn c r)) () N) : sProp 𝕄)) all)
/-- its place at each of its semaphores. -/
def places (c : Dev nD) : sProp 𝕄 :=
  iprop(atPos ER (bar c) 0 ∅ 0 ∗ (atPos ER (kvC c 0) 0 ∅ 0 ∗ atPos ER (kvC c 1) 0 ∅ 0 ∗ atPos ER (kvC c 2) 0 ∅ 0 ∗ atPos ER (kvC c 3) 0 ∅ 0)
    ∗ chain (rsSPos (F := F) c) all ∗ chain (fun r => (atPos ER (rsR c (dn c r)) 0 ∅ 0 : sProp 𝕄)) all
    ∗ chain (agSPos (F := F) c) all ∗ chain (fun r => (atPos ER (agR c (dn c r)) 0 ∅ 0 : sProp 𝕄)) all ∗ selfPos (F := F) c)
/-- The kernel's own buffers, whatever is in them; -/
def scr (c : Dev nD) : sProp 𝕄 :=
  iprop((∃ f, buf (F := F) c cc0_scratch0 f) ∗ (∃ f, buf (F := F) c cc0_scratch1 f) ∗ (∃ f, buf (F := F) c cc0_scratch3 f)
    ∗ (∃ f, buf (F := F) c cc0_scratch4 f) ∗ (∃ f, buf (F := F) c cc0_scratch5 f) ∗ (∃ f, buf (F := F) c cc0_scratch6 f))
/-- the keys and the values, as given. -/
def args (c : Dev nD) : sProp 𝕄 :=
  iprop(((c : Thread nD τ).loc main_arg2 ↦{fullShare} m ((c : Thread nD τ).loc main_arg2))
    ∗ ((c : Thread nD τ).loc main_arg3 ↦{fullShare} m ((c : Thread nD τ).loc main_arg3)))
/-- The staged blocks, with the result buffer at `f`. -/
def staged (c : Dev nD) (f : (cc0_stg3_0 : Ref sig .tc).ty.Contents (Elt F)) : sProp 𝕄 :=
  iprop(buf c cc0_stg0_0 (xC m c) ∗ buf c cc0_stg1_0 (wqC m c) ∗ buf c cc0_stg2_0 (woC m c) ∗ outPts c f)

/-- What the whole body leaves: nothing owed, the result buffer filled, everything else as it was, every semaphore at zero. -/
def bodyOut (c : Dev nD) : sProp 𝕄 :=
  iprop(debts c 0 ∗ staged m c (outC m c 15) ∗ scr (F := F) c ∗ args m c ∗ semVal (bar c) 0
    ∗ (semVal (kvC c 0) 0 ∗ semVal (kvC c 1) 0 ∗ semVal (kvC c 2) 0 ∗ semVal (kvC c 3) 0) ∗ zeros (F := F) c)

/-- The parts' beginning, from what the device starts with; the rests of the keys and the values are kept aside. -/
theorem before_intro (c : Dev nD) {f3 : (cc0_stg3_0 : Ref sig .tc).ty.Contents (Elt F)} :
    iprop(ctx m K ∗ debts c (O₀ c) ∗ tokens (F := F) c ∗ credits (F := F) c ∗ places (F := F) c ∗ scr (F := F) c ∗ args m c ∗ staged m c f3)
      ⊢ iprop(∃ g3 g4, before m K c f3 g3 g4 ∗ (kvRest m c 0 ∗ kvRest m c 1) ∗ room (F := F) c (slot rsM c) ∗ room (F := F) c (slot agM c) ∗ selfPos (F := F) c) := by
  have hk := (kA_parts m c).1
  have hv := (vA_parts m c).1
  have hrw : iprop(chain (fun r => (cred (tallyAt (rsR c (dn c r)) () N) : sProp 𝕄)) all ∗ chain (fun r => (atPos ER (rsR c (dn c r)) 0 ∅ 0 : sProp 𝕄)) all)
      ⊢ chain (rwW m c).item all := chain_zip fun r => BIBase.Entails.refl
  have haw : iprop(chain (fun r => (cred (tallyAt (agR c (dn c r)) () N) : sProp 𝕄)) all ∗ chain (fun r => (atPos ER (agR c (dn c r)) 0 ∅ 0 : sProp 𝕄)) all)
      ⊢ chain (awW m c).item all := chain_zip fun r => BIBase.Entails.refl
  unfold tokens credits places scr args staged
  iintro ⟨#Hx, HO, ⟨Tb, ⟨T0, T1, T2, T3⟩, Tr, Ta⟩, ⟨Cb, Cr, Ca⟩, ⟨Pb, Pk, Ps, Pr, Pt, Pa, Pf⟩, ⟨⟨%g0, H0⟩, ⟨%g1, H1⟩, ⟨%g3, H3⟩, ⟨%g4, H4⟩, ⟨%g5, H5⟩, ⟨%g6, H6⟩⟩, ⟨A2, A3⟩, Hst⟩
  iexists g3; iexists g4
  ihave H := (sig_ready c g5 g6) $$ [Tb H5 H6]
  · isplitl [Tb]; · iexact Tb
    isplitl [H5]; · iexact H5
    iexact H6
  icases H with ⟨Hs, Hr5, Hr6⟩
  ihave HK := (k_cut c g0) $$ H0
  icases HK with ⟨K0, K1⟩
  ihave HV := (v_cut c g1) $$ H1
  icases HV with ⟨V0, V1⟩
  ihave A2 := hk $$ A2
  icases A2 with ⟨⟨S00, S01⟩, R0⟩
  ihave A3 := hv $$ A3
  icases A3 with ⟨⟨S10, S11⟩, R1⟩
  isplitr [R0 R1 Hr5 Hr6 Pf]
  · unfold before
    isplitl [HO Hs]
    · iapply (sigSt_begin m K c)
      isplitr; · iexact Hx
      isplitl [HO]; · iexact HO
      iexact Hs
    isplitl [T0 T1 T2 T3 K0 K1 V0 V1 S00 S01 S10 S11]
    · unfold kvBegin
      isplitl [T0 K0 S00]
      · isplitl [T0]; · iexact T0
        iapply (Entails.of_eq (show kvIn m c 0 = iprop(room c (kvslot kM 0) ∗ srcPts m c 0 0) from rfl).symm)
        isplitl [K0]; · iexact K0
        iexact S00
      isplitl [T1 V0 S10]
      · isplitl [T1]; · iexact T1
        iapply (Entails.of_eq (show kvIn m c 1 = iprop(room c (kvslot vM 0) ∗ srcPts m c 1 0) from rfl).symm)
        isplitl [V0]; · iexact V0
        iexact S10
      isplitl [T2 K1 S01]
      · isplitl [T2]; · iexact T2
        iapply (Entails.of_eq (show kvIn m c 2 = iprop(room c (kvslot kM 1) ∗ srcPts m c 0 1) from rfl).symm)
        isplitl [K1]; · iexact K1
        iexact S01
      isplitl [T3]; · iexact T3
      iapply (Entails.of_eq (show kvIn m c 3 = iprop(room c (kvslot vM 1) ∗ srcPts m c 1 1) from rfl).symm)
      isplitl [V1]; · iexact V1
      iexact S11
    isplitl [Pk]; · iexact Pk
    isplitl [Cb Pb]
    · isplitl [Cb]; · iexact Cb
      iexact Pb
    isplitl [Tr]; · iexact Tr
    isplitl [Ta]; · iexact Ta
    isplitl [Cr Pr]
    · iapply hrw
      isplitl [Cr]; · iexact Cr
      iexact Pr
    isplitl [Ca Pa]
    · iapply haw
      isplitl [Ca]; · iexact Ca
      iexact Pa
    isplitl [Ps]; · iexact Ps
    isplitl [Pt]; · iexact Pt
    isplitl [Hst]; · iexact Hst
    isplitl [H3]; · iexact H3
    iexact H4
  isplitl [R0 R1]
  · isplitl [R0]; · iexact R0
    iexact R1
  isplitl [Hr5]; · iexact Hr5
  isplitl [Hr6]; · iexact Hr6
  iexact Pf

/-- What the parts leave, after the last wait, put together again. -/
theorem out_intro (c : Dev nD) :
    iprop(ctx m K ∗ (debts c 0 ∗ chain (asW m c).done all) ∗ heads m c ∗ kvBack m c ∗ staged m c (outC m c 15)
        ∗ semVal (bar c) 0 ∗ rsSPay m c c ∗ agPts m c (restS 15) ∗ chain (rwW m c).done all ∗ chain (awW m c).done all ∗ chain (swW m c).done all
        ∗ (kvRest m c 0 ∗ kvRest m c 1) ∗ room (F := F) c (slot rsM c) ∗ room (F := F) c (slot agM c) ∗ selfPos (F := F) c)
      ⊢ (|={Set.univ}=> bodyOut m c : sProp 𝕄) := by
  have hk := (kA_parts m c).2
  have hv := (vA_parts m c).2
  unfold heads kvBack
  iintro ⟨#Hx, ⟨HO, Dt⟩, ⟨⟨K0, K1⟩, V0, V1⟩, ⟨A2, A3, Zk⟩, Hst, Zb, Hss, Hap, Dr, Da, Ds, ⟨R0, R1⟩, Hr5, Hr6, Pf⟩
  ihave H5 := (rs_end m c) $$ [Dr Hr5]
  · isplitl [Dr]; · iexact Dr
    iexact Hr5
  icases H5 with ⟨H5, Z5⟩
  ihave H6 := (ag_end m c) $$ [Da Hr6]
  · isplitl [Da]; · iexact Da
    iexact Hr6
  icases H6 with ⟨H6, Z6⟩
  ihave H3 := (sb_end m c) $$ [Ds Hss]
  · isplitl [Ds]; · iexact Ds
    iexact Hss
  icases H3 with ⟨H3, Z3⟩
  ihave H4 := (agb_end m c) $$ [Dt Hap]
  · isplitl [Dt]; · iexact Dt
    iexact Hap
  icases H4 with ⟨H4, Z4⟩
  imod (zeros_intro m K c) $$ [Pf Z3 Z4 Z5 Z6] with HZ
  · isplitr; · iexact Hx
    isplitl [Pf]; · iexact Pf
    isplitl [Z3]; · iexact Z3
    isplitl [Z5]; · iexact Z5
    isplitl [Z4]; · iexact Z4
    iexact Z6
  imodintro
  unfold bodyOut scr args
  isplitl [HO]; · iexact HO
  isplitl [Hst]; · iexact Hst
  isplitl [K0 K1 V0 V1 H3 H4 H5 H6]
  · isplitl [K0 K1]
    · iapply (k_join c)
      isplitl [K0]; · iapply (hold_room c); iexact K0
      iapply (hold_room c); iexact K1
    isplitl [V0 V1]
    · iapply (v_join c)
      isplitl [V0]; · iapply (hold_room c); iexact V0
      iapply (hold_room c); iexact V1
    isplitl [H3]; · iexact H3
    isplitl [H4]; · iexact H4
    isplitl [H5]; · iexact H5
    iexact H6
  isplitl [A2 A3 R0 R1]
  · isplitl [A2 R0]
    · iapply hk
      isplitl [A2]; · iexact A2
      iexact R0
    iapply hv
    isplitl [A3]; · iexact A3
    iexact R1
  isplitl [Zb]; · iexact Zb
  isplitl [Zk]; · iexact Zk
  iexact HZ

/-- A returned value may be reached through an update. -/
theorem runs_fupd (c : Dev nD) {α : Type} {a : α} {Q : α → sProp 𝕄} : (|={Set.univ}=> Q a : sProp 𝕄) ⊢ runs c (.ret a) Q := by
  unfold runs; rw [wp_ret]

set_option maxHeartbeats 1000000 in
/-- The whole body on device `c`. -/
theorem body_runs (c : Dev nD) {f3 : (cc0_stg3_0 : Ref sig .tc).ty.Contents (Elt F)} :
    iprop(ctx m K ∗ debts c (O₀ c) ∗ tokens (F := F) c ∗ credits (F := F) c ∗ places (F := F) c ∗ scr (F := F) c ∗ args m c ∗ staged m c f3)
      ⊢ runs c (given cc0_body) (fun _ => bodyOut m c) := by
  have hb := before_intro m K c (f3 := f3)
  have ho := out_intro m K c
  unfold staged at ho
  rw [given, cc0_body_eq_skeleton]
  unfold cc0_body_skel
  iintro ⟨#Hx, H⟩
  ihave H := hb $$ [H]
  · isplitr; · iexact Hx
    iexact H
  icases H with ⟨%g3, %g4, H, Hkeep⟩
  iapply (runs_bind c); iapply (part39 m K c) $$ [H]
  · isplitr; · iexact Hx
    iexact H
  unfold after
  iintro ⟨H, Hh, Hkv, Hst, Hz, Hself, Hpts, Hrd, Had, Hsd⟩
  iapply (runs_bind c); iapply (as_step m K c ⟨14, by decide⟩ 15#32 rfl) $$ H; iintro H
  ihave H := ((asW m c).finish (K := K)) $$ H
  iapply (runs_ret c)
  iapply (runs_fupd c)
  iapply ho
  isplitr; · iexact Hx
  isplitl [H]; · iexact H
  isplitl [Hh]; · iexact Hh
  isplitl [Hkv]; · iexact Hkv
  isplitl [Hst]; · iexact Hst
  isplitl [Hz]; · iexact Hz
  isplitl [Hself]; · iexact Hself
  isplitl [Hpts]; · iexact Hpts
  isplitl [Hrd]; · iexact Hrd
  isplitl [Had]; · iexact Had
  isplitl [Hsd]; · iexact Hsd
  iexact Hkeep

end Cert.AllPairs

end
-- ==== Proof.Deal.lean ====
/-
  The semaphores of a device, the payments dealt to the devices that make them, and what is owed at launch.
-/
module

public import proofs.«01_k».proof.Proof.Whole

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## A device's transfer semaphores, by use -/

/-- The kernel's transfer semaphores on a device: the heads' four, then the two exchanges' four rows. -/
abbrev Own : Type := Fin 4 ⊕ Dev nD ⊕ Dev nD ⊕ Dev nD ⊕ Dev nD

def ownQ : Own → DmaSem sig
  | .inl i => kvQ i
  | .inr (.inl j) => rsSQ j
  | .inr (.inr (.inl j)) => rsRQ j
  | .inr (.inr (.inr (.inl j))) => agSQ j
  | .inr (.inr (.inr (.inr j))) => agRQ j
abbrev osem (x : Own) : SemLoc sig := .dma (ownQ x)

/-- The kernel's own semaphores are distinct and cover those that the call scopes. -/
theorem ownSemFacts : Pipeline.OwnSemFacts cfg0.spec osem := by decide +kernel

/-- The kernel's own semaphores come after the four of the staging. -/
theorem own_le (x : Own) : 4 ≤ (ownQ x).val := by revert x; decide +kernel

set_option backward.proofsInPublic true in
/-- Which of the exchange's 69 a semaphore is: the barrier, or one of these. -/
def spot : Unit ⊕ Own → Fin 69
  | .inl _ => 68
  | .inr x => ⟨(ownQ x).val - 4, by have h : (ownQ x).val < 72 := (ownQ x).isLt; omega⟩
/-- The 69 cells of a device are the barrier and its own semaphores. -/
theorem spot_bijective : Function.Bijective spot := by decide +kernel
/-- The spot of an own semaphore is that semaphore. -/
theorem csem_spot (x : Own) : csem (spot (.inr x)) = osem x := by revert x; decide +kernel

/-- A product over one index is its one factor. -/
theorem bigSep_unit (Φ : Unit → sProp 𝕄) : bigSep Finset.univ Φ = Φ () := by
  rw [show (Finset.univ : Finset Unit) = {()} from rfl, bigSep_singleton]

/-- A product over a device's 69 cells is the barrier's factor and those of its own semaphores. -/
theorem spread (c : Dev nD) (Φ : GSem nD τ sig → sProp 𝕄) :
    (bigSep Finset.univ fun k : Fin 69 => Φ (kcell (c, k))) = iprop(Φ (bar c) ∗ bigSep Finset.univ fun x : Own => Φ ((c : Thread nD τ), osem x)) := by
  rw [bigSep_univ_equiv (Equiv.ofBijective spot spot_bijective), bigSep_univ_sum, bigSep_unit]
  exact congrArg₂ _ rfl (bigSep_congr fun x _ => congrArg (fun s => Φ ((c : Thread nD τ), s)) (csem_spot x))

/-- A product over all cells is taken device by device. -/
theorem all_cells (Φ : GSem nD τ sig → sProp 𝕄) :
    bigSep exCells Φ = bigSep Finset.univ fun c : Dev nD => iprop(Φ (bar c) ∗ bigSep Finset.univ fun x : Own => Φ ((c : Thread nD τ), osem x)) := by
  unfold exCells; rw [bigSep_map, bigSep_univ_prod]
  exact bigSep_congr fun c _ => spread c Φ

/-- A product over four indices, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- One of each, use by use. -/
theorem by_use (Φ : Own → sProp 𝕄) : bigSep Finset.univ Φ =
    iprop((Φ (.inl 0) ∗ Φ (.inl 1) ∗ Φ (.inl 2) ∗ Φ (.inl 3)) ∗ (bigSep Finset.univ fun j : Dev nD => Φ (.inr (.inl j)))
      ∗ (bigSep Finset.univ fun j : Dev nD => Φ (.inr (.inr (.inl j)))) ∗ (bigSep Finset.univ fun j : Dev nD => Φ (.inr (.inr (.inr (.inl j)))))
      ∗ (bigSep Finset.univ fun j : Dev nD => Φ (.inr (.inr (.inr (.inr j)))))) := by
  rw [bigSep_univ_sum, four, bigSep_univ_sum, bigSep_univ_sum, bigSep_univ_sum]; rfl

/-! ## The payments, as they are made and as they are dealt -/

/-- A payment at a semaphore of device `c`: a barrier's by device `d`, any other's single one. -/
def tokOf (x : Dev nD × (Dev nD ⊕ Own)) : GSem nD τ sig × ℕ × Dev nD :=
  match x.2 with
  | .inl d => (bar x.1, 0, d)
  | .inr y => (((x.1 : Thread nD τ), osem y), 0, 0)

/-- Different own semaphores have different numbers. -/
theorem ownQ_injective : Function.Injective ownQ := by decide +kernel
/-- Different payments have different tokens. -/
theorem tokOf_injective : Function.Injective tokOf := by
  rintro ⟨c, x⟩ ⟨c', x'⟩ h
  have h1 : c = c' := by
    have := congrArg (fun x : GSem nD τ sig × ℕ × Dev nD => x.1.1.1) h
    cases x <;> cases x' <;> exact this
  subst h1
  congr 1
  rcases x with d | y <;> rcases x' with d' | y'
  · exact congrArg Sum.inl (congrArg (fun x : GSem nD τ sig × ℕ × Dev nD => x.2.2) h)
  · exact absurd (congrArg (fun x : GSem nD τ sig × ℕ × Dev nD => x.1.2) h) (fun h' => by cases h')
  · exact absurd (congrArg (fun x : GSem nD τ sig × ℕ × Dev nD => x.1.2) h) (fun h' => by cases h')
  · have h2 : osem y = osem y' := congrArg (fun x : GSem nD τ sig × ℕ × Dev nD => x.1.2) h
    exact congrArg Sum.inr (ownQ_injective (SemLoc.dma.inj h2))
def exToks : Finset (GSem nD τ sig × ℕ × Dev nD) := Finset.univ.map ⟨tokOf, tokOf_injective⟩

/-- The payments at device `c`'s semaphores, -/
def made (c : Dev nD) : sProp 𝕄 :=
  iprop((bigSep Finset.univ fun d : Dev nD => dutyTok ER (bar c) 0 d)
    ∗ (dutyTok ER (kvC c 0) 0 0 ∗ dutyTok ER (kvC c 1) 0 0 ∗ dutyTok ER (kvC c 2) 0 0 ∗ dutyTok ER (kvC c 3) 0 0)
    ∗ (bigSep Finset.univ fun j : Dev nD => dutyTok ER (rsS c j) 0 0) ∗ (bigSep Finset.univ fun j : Dev nD => dutyTok ER (rsR c j) 0 0)
    ∗ (bigSep Finset.univ fun j : Dev nD => dutyTok ER (agS c j) 0 0) ∗ (bigSep Finset.univ fun j : Dev nD => dutyTok ER (agR c j) 0 0))
/-- and those device `c` makes. -/
def dealt (c : Dev nD) : sProp 𝕄 :=
  iprop((bigSep Finset.univ fun d : Dev nD => dutyTok ER (bar d) 0 c)
    ∗ (dutyTok ER (kvC c 0) 0 0 ∗ dutyTok ER (kvC c 1) 0 0 ∗ dutyTok ER (kvC c 2) 0 0 ∗ dutyTok ER (kvC c 3) 0 0)
    ∗ (bigSep Finset.univ fun j : Dev nD => dutyTok ER (rsS c j) 0 0) ∗ (bigSep Finset.univ fun j : Dev nD => dutyTok ER (rsR j c) 0 0)
    ∗ (bigSep Finset.univ fun j : Dev nD => dutyTok ER (agS c j) 0 0) ∗ (bigSep Finset.univ fun j : Dev nD => dutyTok ER (agR j c) 0 0))

/-- All tokens, grouped by the device whose cell they pay. -/
theorem all_toks : (bigSep exToks fun x => (dutyTok ER x.1 x.2.1 x.2.2 : sProp 𝕄)) = bigSep Finset.univ fun c : Dev nD => made (F := F) c := by
  unfold exToks; rw [bigSep_map, bigSep_univ_prod]
  exact bigSep_congr fun c _ => by rw [bigSep_univ_sum, by_use]; rfl

/-- The tokens grouped by cell are the tokens grouped by the device that pays. -/
theorem deal_around : (bigSep Finset.univ fun c : Dev nD => made (F := F) c) = bigSep Finset.univ fun c : Dev nD => dealt (F := F) c := by
  unfold made dealt
  simp only [bigSep_sep']
  rw [bigSep_univ_comm (fun c d : Dev nD => (dutyTok ER (bar c) 0 d : sProp 𝕄)), bigSep_univ_comm (fun c j : Dev nD => (dutyTok ER (rsR c j) 0 0 : sProp 𝕄)),
    bigSep_univ_comm (fun c j : Dev nD => (dutyTok ER (agR c j) 0 0 : sProp 𝕄))]

/-- What a device is dealt are the tokens that its run uses. -/
theorem dealt_tokens (c : Dev nD) : dealt (F := F) c ⊢ tokens (F := F) c := by
  have hr : iprop(chain (fun r => (dutyTok ER (rsS c (up c r)) 0 0 : sProp 𝕄)) all ∗ chain (fun r => (dutyTok ER (rsR (up c r) c) 0 0 : sProp 𝕄)) all)
      ⊢ chain (rsTok (F := F) c) all := chain_zip fun r => BIBase.Entails.refl
  have ha : iprop(chain (fun r => (dutyTok ER (agS c (up c r)) 0 0 : sProp 𝕄)) all ∗ chain (fun r => (dutyTok ER (agR (up c r) c) 0 0 : sProp 𝕄)) all)
      ⊢ chain (agTok (F := F) c) all := chain_zip fun r => BIBase.Entails.refl
  unfold dealt tokens
  rw [ring_up c (fun d => (dutyTok ER (bar d) 0 c : sProp 𝕄)), ring_up c (fun j => (dutyTok ER (rsS c j) 0 0 : sProp 𝕄)),
    ring_up c (fun j => (dutyTok ER (rsR j c) 0 0 : sProp 𝕄)), ring_up c (fun j => (dutyTok ER (agS c j) 0 0 : sProp 𝕄)),
    ring_up c (fun j => (dutyTok ER (agR j c) 0 0 : sProp 𝕄))]
  iintro ⟨⟨-, Hb⟩, Hk, ⟨-, H1⟩, ⟨-, H2⟩, ⟨-, H3⟩, -, H4⟩
  isplitl [Hb]; · iexact Hb
  isplitl [Hk]; · iexact Hk
  isplitl [H1 H2]
  · iapply hr; isplitl [H1]; · iexact H1
    iexact H2
  iapply ha; isplitl [H3]; · iexact H3
  iexact H4

/-- A device's places, from those at all its semaphores. -/
theorem all_places (c : Dev nD) : iprop(atPos ER (bar c) 0 ∅ 0 ∗ bigSep Finset.univ fun x : Own => (atPos ER ((c : Thread nD τ), osem x) 0 ∅ 0 : sProp 𝕄))
    ⊢ places (F := F) c := by
  unfold places selfPos
  rw [by_use]
  show iprop(atPos ER (bar c) 0 ∅ 0 ∗ (atPos ER (kvC c 0) 0 ∅ 0 ∗ atPos ER (kvC c 1) 0 ∅ 0 ∗ atPos ER (kvC c 2) 0 ∅ 0 ∗ atPos ER (kvC c 3) 0 ∅ 0)
    ∗ (bigSep Finset.univ fun j : Dev nD => atPos ER (rsS c j) 0 ∅ 0) ∗ (bigSep Finset.univ fun j : Dev nD => atPos ER (rsR c j) 0 ∅ 0)
    ∗ (bigSep Finset.univ fun j : Dev nD => atPos ER (agS c j) 0 ∅ 0) ∗ (bigSep Finset.univ fun j : Dev nD => atPos ER (agR c j) 0 ∅ 0)) ⊢ _
  rw [ring_up c (fun j => (atPos ER (rsS c j) 0 ∅ 0 : sProp 𝕄)), ring_dn c (fun j => (atPos ER (rsR c j) 0 ∅ 0 : sProp 𝕄)),
    ring_up c (fun j => (atPos ER (agS c j) 0 ∅ 0 : sProp 𝕄)), ring_dn c (fun j => (atPos ER (agR c j) 0 ∅ 0 : sProp 𝕄))]
  iintro ⟨Hb, Hk, ⟨S1, H1⟩, ⟨S2, H2⟩, ⟨S3, H3⟩, S4, H4⟩
  isplitl [Hb]; · iexact Hb
  isplitl [Hk]; · iexact Hk
  isplitl [H1]; · iexact H1
  isplitl [H2]; · iexact H2
  isplitl [H3]; · iexact H3
  isplitl [H4]; · iexact H4
  isplitl [S1]; · iexact S1
  isplitl [S2]; · iexact S2
  isplitl [S3]; · iexact S3
  iexact S4

/-- A device's own semaphores at zero, from those of each use. -/
theorem own_zero (c : Dev nD) : iprop((semVal (kvC c 0) 0 ∗ semVal (kvC c 1) 0 ∗ semVal (kvC c 2) 0 ∗ semVal (kvC c 3) 0) ∗ zeros (F := F) c)
    = (Pipeline.ownSems0 (Ix := Unit) (Name := ℕ) (U := UU) (Lvl := ℕ) (Val := Elt F) (τ := τ) osem c : sProp 𝕄) := by
  unfold Pipeline.ownSems0 zeros; rw [by_use]; rfl

/-! ## What is owed at launch -/

section Owed

/-- What a row of equal debts comes to at one semaphore. -/
theorem due_at {n : ℕ} (f : Fin 15 → GSem nD τ sig) (due : List (Fin 15) → CellTallies nD τ sig Unit) (h0 : due [] = 0)
    (hc : ∀ r l, due (r :: l) = due l + tallyAt (f r) () n) (g : GSem nD τ sig) : ∀ l, due l g () = n * l.countP fun r => decide (g = f r)
  | [] => by rw [h0]; rfl
  | r :: l => by
    rw [hc, Pi.add_apply, Finsupp.add_apply, due_at f due h0 hc g l, tallyAt_apply, List.countP_cons]
    by_cases h : g = f r
    · rw [if_pos ⟨h, rfl⟩, if_pos (by simpa using h), Nat.mul_add, Nat.mul_one]
    · rw [if_neg (fun hh => h hh.1), if_neg (by simpa using h)]; rfl

/-- What a device owes to a cell, counted over its fifteen steps. -/
theorem owed_at (d : Dev nD) (g : GSem nD τ sig) : O₀ d g () =
    (N * all.countP fun r => decide (g = agR (up d r) d)) + (N * all.countP fun r => decide (g = rsR (up d r) d)) + (1 * all.countP fun r => decide (g = bar (up d r))) := by
  unfold O₀ O₁ O₂
  rw [Pi.add_apply, Finsupp.add_apply, Pi.add_apply, Finsupp.add_apply, due_at (fun r => agR (up d r) d) (dueAG d) rfl (fun _ _ => rfl),
    due_at (fun r => rsR (up d r) d) (dueRS d) rfl (fun _ _ => rfl), due_at (fun r => bar (up d r)) (dueBar d) rfl (fun _ _ => rfl)]

/-- Cells of different semaphores differ. -/
theorem cell_ne {c d : Dev nD} {s s' : SemLoc sig} (h : s ≠ s') : (((c : Thread nD τ), s) : GSem nD τ sig) ≠ ((d : Thread nD τ), s') :=
  fun hh => h (congrArg Prod.snd hh)
/-- Two cells are equal exactly when device and semaphore are. -/
theorem cell_iff {c d : Dev nD} {s s' : SemLoc sig} : (((c : Thread nD τ), s) : GSem nD τ sig) = ((d : Thread nD τ), s') ↔ c = d ∧ s = s' :=
  ⟨fun hh => ⟨congrArg (fun g : GSem nD τ sig => g.1.1) hh, congrArg Prod.snd hh⟩, fun ⟨h, h'⟩ => by rw [h, h']⟩

/-- A cell that no step pays is counted zero times. -/
theorem none_due {f : Fin 15 → GSem nD τ sig} {g : GSem nD τ sig} (h : ∀ r, g ≠ f r) : (all.countP fun r => decide (g = f r)) = 0 :=
  List.countP_eq_zero.mpr fun r _ => by simpa using h r

/-- The receive semaphores of the two exchanges differ. -/
theorem rsR_ne_agR (j j' : Dev nD) : rsRQ j ≠ agRQ j' := by revert j j'; decide +kernel
/-- The first exchange's receive semaphores differ from peer to peer. -/
theorem rsR_iff (j j' : Dev nD) : rsRQ j = rsRQ j' ↔ j = j' := by revert j j'; decide +kernel
/-- The second exchange's receive semaphores differ from peer to peer. -/
theorem agR_iff (j j' : Dev nD) : agRQ j = agRQ j' ↔ j = j' := by revert j j'; decide +kernel

/-- Fifteen devices signal each barrier. -/
theorem count_bar (c : Dev nD) : (∑ d : Dev nD, all.countP fun r => decide (c = up d r)) = 15 := by revert c; decide +kernel
/-- One device sends into each row of a receive buffer. -/
theorem count_pair (c : Dev nD) (r : Fin 15) : (∑ d : Dev nD, all.countP fun r' => decide (c = up d r' ∧ dn c r = d)) = 1 := by revert c r; decide +kernel

/-- One semaphore's credit at launch, from what each device owes it. -/
theorem credit_of {g : GSem nD τ sig} {n : ℕ} (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- What a device owes to a barrier. -/
theorem owed_bar (d c : Dev nD) : O₀ d (bar c) () = all.countP fun r => decide (c = up d r) := by
  rw [owed_at, none_due (f := fun r => agR (up d r) d) (fun r => cell_ne fun h => by cases h), none_due (f := fun r => rsR (up d r) d) (fun r => cell_ne fun h => by cases h)]
  simp only [Nat.mul_zero, Nat.zero_add, Nat.one_mul]
  refine List.countP_congr fun r _ => ?_
  rw [decide_eq_true_iff, decide_eq_true_iff, cell_iff]; exact and_iff_left rfl
/-- What a device owes to a receive semaphore of the first exchange. -/
theorem owed_rsR (d c j : Dev nD) : O₀ d (rsR c j) () = N * all.countP fun r => decide (c = up d r ∧ j = d) := by
  rw [owed_at, none_due (f := fun r' => agR (up d r') d) (fun r' => cell_ne fun h => rsR_ne_agR _ _ (SemLoc.dma.inj h)), none_due (f := fun r' => bar (up d r')) (fun r' => cell_ne fun h => by cases h)]
  simp only [Nat.mul_zero, Nat.add_zero, Nat.zero_add]
  refine congrArg (N * ·) (List.countP_congr fun r' _ => ?_)
  rw [decide_eq_true_iff, decide_eq_true_iff, cell_iff, SemLoc.dma.injEq, rsR_iff]
/-- What a device owes to a receive semaphore of the second exchange. -/
theorem owed_agR (d c j : Dev nD) : O₀ d (agR c j) () = N * all.countP fun r => decide (c = up d r ∧ j = d) := by
  rw [owed_at, none_due (f := fun r' => rsR (up d r') d) (fun r' => cell_ne fun h => rsR_ne_agR _ _ (SemLoc.dma.inj h).symm), none_due (f := fun r' => bar (up d r')) (fun r' => cell_ne fun h => by cases h)]
  simp only [Nat.mul_zero, Nat.add_zero, Nat.zero_add]
  refine congrArg (N * ·) (List.countP_congr fun r' _ => ?_)
  rw [decide_eq_true_iff, decide_eq_true_iff, cell_iff, SemLoc.dma.injEq, agR_iff]

/-- A sum of multiples of `n`, whose factors add up to one, is `n`. -/
theorem one_of (n : ℕ) {f g : Dev nD → ℕ} (h : ∀ d, f d = n * g d) (h1 : (∑ d, g d) = 1) : (∑ d, f d) = n := by
  rw [Finset.sum_congr rfl fun d _ => h d, ← Finset.mul_sum, h1, Nat.mul_one]

/-- The launch credits each barrier with fifteen signals. -/
theorem launch_bar (c : Dev nD) :
    tallyOn (bar c) (launchCredit (Pipeline.owing O₀) 0 (bar c)) = (tallyAt (bar c) () 15 : CellTallies nD τ sig Unit) :=
  credit_of ((Finset.sum_congr rfl fun d _ => owed_bar d c).trans (count_bar c))
/-- The launch credits each receive semaphore of the first exchange with one chunk. -/
theorem launch_rsR (c : Dev nD) (r : Fin 15) :
    tallyOn (rsR c (dn c r)) (launchCredit (Pipeline.owing O₀) 0 (rsR c (dn c r))) = (tallyAt (rsR c (dn c r)) () N : CellTallies nD τ sig Unit) :=
  credit_of (one_of N (fun d => owed_rsR d c (dn c r)) (count_pair c r))
/-- The launch credits each receive semaphore of the second exchange with one chunk. -/
theorem launch_agR (c : Dev nD) (r : Fin 15) :
    tallyOn (agR c (dn c r)) (launchCredit (Pipeline.owing O₀) 0 (agR c (dn c r))) = (tallyAt (agR c (dn c r)) () N : CellTallies nD τ sig Unit) :=
  credit_of (one_of N (fun d => owed_agR d c (dn c r)) (count_pair c r))

/-- The three kinds of semaphores on which other devices pay. -/
def paidS (c : Dev nD) : Unit ⊕ Fin 15 ⊕ Fin 15 → SemLoc sig
  | .inl _ => .reg barS
  | .inr (.inl r) => .dma (rsRQ (dn c r))
  | .inr (.inr r) => .dma (agRQ (dn c r))
/-- The send semaphores that a device pays are distinct. -/
theorem paidS_injective (c : Dev nD) : Function.Injective (paidS c) := by revert c; decide +kernel

/-- A device's credit at launch. -/
theorem launch_credits (c : Dev nD) : (Pipeline.launchCred O₀ c : sProp 𝕄) ⊢ credits (F := F) c := by
  unfold Pipeline.launchCred credits
  refine BIBase.Entails.trans (bigSep_subset (Finset.subset_univ (Finset.univ.map ⟨paidS c, paidS_injective c⟩))) (Entails.of_eq ?_)
  rw [bigSep_map, bigSep_univ_sum, bigSep_univ_sum, bigSep_unit, chain_all, chain_all]
  refine congrArg₂ _ (congrArg _ (launch_bar c)) (congrArg₂ _ (bigSep_congr fun r _ => congrArg _ (launch_rsR c r)) (bigSep_congr fun r _ => congrArg _ (launch_agR c r)))

end Owed

end Cert.AllPairs

end
-- ==== Proof.Launch.lean ====
/-
  The proof data of the launch, and its obligation for the body.
-/
module

public import proofs.«01_k».proof.Proof.Deal

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## The proof data of the launch -/

variable (ρ : Dev nD → PrngReg)

/-- A product over the four windows, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev t₀ : Fin cfg0.N := t0_0

/-- The grid has one step. -/
theorem fin_N (t : Fin cfg0.N) : t = t₀ := fin_N0 t

/-- What device `c` holds of the exchange's at launch: at some names the records, then its payments, its places and its credit; and the keys and the values. -/
def start (c : Dev nD) : sProp 𝕄 :=
  iprop((∃ K, ctx m K ∗ tokens (F := F) c ∗ places (F := F) c) ∗ credits (F := F) c ∗ args m c)
def Φ₀ (c : Dev nD) : sProp 𝕄 := iprop(start m c ∗ scr (F := F) c)
/-- What it holds at the end. -/
def Φ₁ (c : Dev nD) : sProp 𝕄 :=
  iprop(scr (F := F) c ∗ args m c ∗ semVal (bar c) 0 ∗ (semVal (kvC c 0) 0 ∗ semVal (kvC c 1) 0 ∗ semVal (kvC c 2) 0 ∗ semVal (kvC c 3) 0) ∗ zeros (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xC m c
    | ⟨1, _⟩ => wqC m c
    | ⟨2, _⟩ => woC m c
    | ⟨3, _⟩ => outC m c 15
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole buffer is holding its points. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Every input window is fetched. -/
theorem fetch_in (w : Fin 4) (hw : w ≠ 3) (t : Fin cfg0.N) : (cfg0.win w).fetch t = true := by
  rw [fin_N t]; revert w; decide +kernel

/-- What a staging buffer holds, as an existential on its contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Holding a staged window is holding its buffer. -/
theorem stg_buf (c : Dev nD) (b : Ref sig .tc) (X : b.ty.Contents (Elt F)) : stg c b X = buf c b X := by
  refine BI.equiv_iff.mp ⟨?_, ?_⟩
  · show (stg c b X : sProp 𝕄) ⊢ iprop(buf c b X)
    iintro ⟨%f, %h, H⟩; subst h; unfold buf; iexact H
  · show (buf c b X : sProp 𝕄) ⊢ iprop(stg c b X)
    unfold buf; iintro H; iexists X; isplitr; · (ipureintro; rfl)
    iexact H

/-- The body finds `x` staged. -/
theorem before_0 (c : Dev nD) (d) : (dats m ρ 0 c).before (0 : Fin 4) t₀ d = xC m c := by
  unfold Pipeline.Dat.before; rw [if_pos (fetch_in 0 (by decide) t₀)]; rfl
/-- The body finds its block of `Wq` staged. -/
theorem before_1 (c : Dev nD) (d) : (dats m ρ 0 c).before (1 : Fin 4) t₀ d = wqC m c := by
  unfold Pipeline.Dat.before; rw [if_pos (fetch_in 1 (by decide) t₀)]; rfl
/-- The body finds its block of `Wo` staged. -/
theorem before_2 (c : Dev nD) (d) : (dats m ρ 0 c).before (2 : Fin 4) t₀ d = woC m c := by
  unfold Pipeline.Dat.before; rw [if_pos (fetch_in 2 (by decide) t₀)]; rfl

set_option maxRecDepth 8000 in
def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
set_option maxRecDepth 8000 in
def bodyPost (c : Dev nD) : sProp 𝕄 :=
  iprop((dats m ρ 0 c).Φ t₀.succ ∗ (dats m ρ 0 c).owesAt () t₀.succ ∗ stg c cc0_stg0_0 ((dats m ρ 0 c).after (0 : Fin 4) t₀)
    ∗ stg c cc0_stg1_0 ((dats m ρ 0 c).after (1 : Fin 4) t₀) ∗ stg c cc0_stg2_0 ((dats m ρ 0 c).after (2 : Fin 4) t₀)
    ∗ stg c cc0_stg3_0 ((dats m ρ 0 c).after (3 : Fin 4) t₀))

/-- The body leaves the staged `x` as it was. -/
theorem after_0 (c : Dev nD) (t) : (dats m ρ 0 c).after (0 : Fin 4) t = xC m c := by dsimp only [dats]
/-- The body leaves the staged block of `Wq` as it was. -/
theorem after_1 (c : Dev nD) (t) : (dats m ρ 0 c).after (1 : Fin 4) t = wqC m c := by dsimp only [dats]
/-- The body leaves the staged block of `Wo` as it was. -/
theorem after_2 (c : Dev nD) (t) : (dats m ρ 0 c).after (2 : Fin 4) t = woC m c := by dsimp only [dats]
/-- The body leaves the whole sum in the staged output. -/
theorem after_3 (c : Dev nD) (t) : (dats m ρ 0 c).after (3 : Fin 4) t = outC m c 15 := by dsimp only [dats]
/-- What is held after the one grid step. -/
theorem phi_succ (c : Dev nD) : (dats m ρ 0 c).Φ t₀.succ = Φ₁ m c := rfl

/-- What the body leaves is what the launch wants after it. -/
theorem post_intro (c : Dev nD) : bodyOut m c ⊢ bodyPost m ρ c := by
  unfold bodyOut bodyPost staged debts outPts Pipeline.Dat.owesAt Pipeline.owesWithin
  rw [show (dats m ρ 0 c).owed t₀.succ = 0 from rfl, after_0, after_1, after_2, after_3, phi_succ, stg_buf, stg_buf, stg_buf, stg_buf]
  unfold Φ₁
  iintro ⟨⟨%W, HO⟩, ⟨H0, H1, H2, H3⟩, Hs, Ha, Hb, Hk, Hz⟩
  isplitl [Hs Ha Hb Hk Hz]
  · isplitl [Hs]; · iexact Hs
    isplitl [Ha]; · iexact Ha
    isplitl [Hb]; · iexact Hb
    isplitl [Hk]; · iexact Hk
    iexact Hz
  isplitl [HO]
  · iexists W; isplitr; · (ipureintro; exact fun _ _ => Or.inl trivial)
    iexact HO
  isplitl [H0]; · iexact H0
  isplitl [H1]; · iexact H1
  isplitl [H2]; · iexact H2
  unfold buf; iexact H3

/-- From what the launch hands over, the body runs. -/
theorem pre_runs (c : Dev nD) : bodyPre m ρ c ⊢ runs c (given cc0_body) (fun _ => bodyPost m ρ c) := by
  have hp : ∀ u : PUnit, bodyOut m c ⊢ bodyPost m ρ c := fun _ => post_intro m ρ c
  unfold bodyPre Φ₀ start Pipeline.Dat.owesAt Pipeline.owesWithin
  rw [show (dats m ρ 0 c).owed t₀.castSucc = O₀ c from rfl]
  simp only [before_0, before_1, before_2, stg_buf]
  iintro ⟨⟨⟨⟨%K, #Hx, Ht, Hp⟩, Hc, Ha⟩, Hs⟩, ⟨%W, -, HO⟩, ⟨%d0, H0⟩, ⟨%d1, H1⟩, ⟨%d2, H2⟩, ⟨%d3, H3⟩⟩
  iapply ((body_runs m K c (f3 := (dats m ρ 0 c).before (3 : Fin 4) t₀ d3)).trans (wp_mono _ _ _ hp))
  isplitr; · iexact Hx
  isplitl [HO]; · unfold debts; iexists W; iexact HO
  isplitl [Ht]; · iexact Ht
  isplitl [Hc]; · iexact Hc
  isplitl [Hp]; · iexact Hp
  isplitl [Hs]; · iexact Hs
  isplitl [Ha]; · iexact Ha
  unfold staged
  isplitl [H0]; · iexact H0
  isplitl [H1]; · iexact H1
  isplitl [H2]; · iexact H2
  unfold outPts buf; iexact H3

/-- The launch's body is the printed one. -/
theorem body_given : (defs₀ (F := F)) Proc.tc 0 (t₀, cfg0.slots t₀) = given cc0_body := rfl

set_option maxRecDepth 8000 in
/-- The launch's obligation for the body. -/
theorem body_obligation (c : Dev nD) : Pipeline.BodyObligation (dats (F := F) m ρ 0 c) (defs₀ (F := F)) 𝒱₀ () Set.univ := fun t => by
  rw [fin_N t]
  rw [bigSep_W, bigSep_W]
  simp only [owns_whole_eq]
  refine BIBase.Entails.trans (Q := bodyPre m ρ c) (Entails.of_eq rfl) ?_
  rw [body_given]
  have hb := pre_runs m ρ c
  generalize bodyPre m ρ c = A at hb ⊢
  unfold runs at hb
  refine BIBase.Entails.trans hb (Entails.of_eq ?_)
  generalize given (cc0_body (F := F)) = P
  congr 1

end Cert.AllPairs

end
-- ==== Proof.Run.lean ====
/-
  The launch: the run of @main on sixteen devices.
-/
module

public import proofs.«01_k».proof.Proof.Launch
public import Idealize.ShloMosaic.Lib.Pipeline.CollectiveSegs

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## What the launch mints, dealt -/

variable (ρ : Dev nD → PrngReg)

/-- Every window is held in full. -/
theorem share_eq (c : Dev nD) (w : Fin cfg0.W) : (dats m ρ 0 c).share w = fullShare := by unfold Pipeline.Dat.share; split <;> rfl

/-- A predicate of each of the exchange's semaphores on a device: its barrier's and its own. -/
def at_all (Φ : GSem nD τ sig → sProp 𝕄) (c : Dev nD) : sProp 𝕄 :=
  iprop(Φ (bar c) ∗ bigSep Finset.univ fun x : Own => Φ ((c : Thread nD τ), osem x))

/-- A product over all cells, device by device. -/
theorem in_all (Φ : GSem nD τ sig → sProp 𝕄) : bigSep exCells Φ = bigSep Finset.univ fun c : Dev nD => at_all Φ c := all_cells Φ

def u₀ : UU :=
  (initOf (Pipeline.cells cfgs cellOf_inj) (Pipeline.launchToks cfgs cellOf_inj), initOf exCells exToks)

/-- What the launch mints for device `c`: its semaphores' round states, its places, the round reached, its semaphores' payments. -/
def mint (c : Dev nD) : sProp 𝕄 :=
  iprop(at_all (fun g => roundState ER (sched m) g 0) c ∗ at_all (fun g => atPos ER g 0 ∅ 0) c ∗ at_all (fun g => reached ER g 0) c ∗ made (F := F) c)

/-- What every device knows of the exchange: the invariants of all semaphores and that their first round is reached. -/
def records : sProp 𝕄 := iprop((bigSep exCells fun g => cellInv ER (sched m) (K g) g) ∗ bigSep exCells fun g => reached ER g 0)

instance records_persistent : BI.Persistent (records m K) := by unfold records; infer_instance

/-- What device `c` has once the invariants are made. -/
def armed (c : Dev nD) : sProp 𝕄 := iprop(∃ K, records m K ∗ tokens (F := F) c ∗ places (F := F) c)

/-- The launch's ghost resource is dealt into what each device mints. -/
theorem fund_all : BI.own (ER (initOf exCells exToks)) ⊢ (|==> bigSep Finset.univ (mint m) : sProp 𝕄) := by
  iintro HX
  imod (Rounds.fund ER (sched m) exCells exToks) $$ HX with ⟨Hst, Hr, Hat, Htok⟩
  imodintro
  ihave Hs := (Entails.of_eq (in_all fun g => roundState ER (sched m) g 0)) $$ Hst
  ihave Ha := (Entails.of_eq (in_all fun g => atPos ER g 0 ∅ 0)) $$ Hat
  ihave Hc := (Entails.of_eq (in_all fun g => reached ER g 0)) $$ Hr
  ihave Ht := (Entails.of_eq (all_toks (F := F))) $$ Htok
  unfold mint
  rw [bigSep_sep', bigSep_sep', bigSep_sep']
  isplitl [Hs]; · iexact Hs
  isplitl [Ha]; · iexact Ha
  isplitl [Hc]; · iexact Hc
  iexact Ht

/-- The one semaphore outside the call's scope is the barrier. -/
theorem bar_zero (c : Dev nD) : (unscopedSems0 c : sProp 𝕄) = semVal (bar c) 0 := by
  unfold unscopedSems0; rw [bigSep_eq_bigSepL_of_eq [SemLoc.reg barS] (by decide) (by decide)]; rfl

/-- All of a device's semaphores start at zero. -/
theorem all_zero (c : Dev nD) : iprop(Pipeline.ownSems0 (Ix := Unit) (Name := ℕ) (U := UU) (Lvl := ℕ) (Val := Elt F) (τ := τ) osem c ∗ unscopedSems0 c)
    ⊢ (at_all (fun g => semVal g 0) c : sProp 𝕄) := by
  rw [bar_zero]; unfold Pipeline.ownSems0 at_all
  iintro ⟨HO, HB⟩
  isplitl [HB] <;> iassumption

/-- From counters at zero and fresh rounds, every cell's invariant is made. -/
theorem invs_made (c : Dev nD) : iprop(at_all (fun g => semVal g 0) c ∗ at_all (fun g => roundState ER (sched m) g 0) c)
    ⊢ (|={Set.univ}=> at_all (fun g => iprop(∃ κ : ℕ, cellInv ER (sched m) κ g)) c : sProp 𝕄) := by
  have one (g : GSem nD τ sig) : iprop(semVal g 0 ∗ roundState ER (sched m) g 0) ⊢ (|={Set.univ}=> iprop(∃ κ : ℕ, cellInv ER (sched m) κ g) : sProp 𝕄) :=
    (Rounds.body_intro ER (sched m) g).trans inv_alloc
  have own : iprop((bigSep Finset.univ fun x : Own => semVal ((c : Thread nD τ), osem x) 0) ∗ bigSep Finset.univ fun x : Own => roundState ER (sched m) ((c : Thread nD τ), osem x) 0)
      ⊢ (|={Set.univ}=> bigSep Finset.univ fun x : Own => iprop(∃ κ : ℕ, cellInv ER (sched m) κ ((c : Thread nD τ), osem x)) : sProp 𝕄) := by
    rw [← bigSep_sep']; exact (bigSep_mono fun x _ => one _).trans (bigSep_fupd _ _)
  unfold at_all
  iintro ⟨⟨HB, HO⟩, HsB, HsO⟩
  imod (one (bar c)) $$ [HB HsB] with HiB
  · isplitl [HB] <;> iassumption
  imod own $$ [HO HsO] with HiO
  · isplitl [HO] <;> iassumption
  imodintro
  isplitl [HiB] <;> iassumption

/-- Each device's invariants, from its semaphores at zero. -/
theorem arm_one (c : Dev nD) : iprop(Pipeline.ownSems0 (Ix := Unit) (Name := ℕ) (U := UU) (Lvl := ℕ) (Val := Elt F) (τ := τ) osem c ∗ unscopedSems0 c ∗ mint m c)
    ⊢ |={Set.univ}=> iprop(at_all (fun g => iprop(∃ κ : ℕ, cellInv ER (sched m) κ g)) c ∗ at_all (fun g => atPos ER g 0 ∅ 0) c
        ∗ at_all (fun g => reached ER g 0) c ∗ made (F := F) c) := by
  unfold mint
  iintro ⟨HO, HU, Hs, Ha, Hr, Ht⟩
  ihave Hv := (all_zero (F := F) c) $$ [HO HU]
  · isplitl [HO] <;> iassumption
  imod (invs_made m c) $$ [Hv Hs] with Hi
  · isplitl [Hv] <;> iassumption
  imodintro
  isplitl [Hi]; · iexact Hi
  isplitl [Ha]; · iexact Ha
  isplitl [Hr]; · iexact Hr
  iexact Ht

/-- A fact that may be copied is used under a product. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans (sep_mono_left (BI.bigSep_of_persistent S R)) ?_
  rw [← bigSep_sep']; exact bigSep_mono h

/-- The records, the dealt tokens and the positions arm a device. -/
theorem armed_intro (c : Dev nD) : iprop(records m K ∗ dealt (F := F) c ∗ at_all (fun g => atPos ER g 0 ∅ 0) c) ⊢ armed m c := by
  unfold armed at_all
  iintro ⟨#HR, Ht, Ha⟩
  iexists K
  isplitr; · iexact HR
  isplitl [Ht]
  · iapply (dealt_tokens (F := F) c); iexact Ht
  · iapply (all_places (F := F) c); iexact Ha

/-- All devices are armed together. -/
theorem arm_all : (bigSep Finset.univ fun c : Dev nD => iprop(at_all (fun g => iprop(∃ κ : ℕ, cellInv ER (sched m) κ g)) c ∗ at_all (fun g => atPos ER g 0 ∅ 0) c
        ∗ at_all (fun g => reached ER g 0) c ∗ made (F := F) c) : sProp 𝕄) ⊢ bigSep Finset.univ (armed m) := by
  rw [bigSep_sep', bigSep_sep', bigSep_sep', ← in_all (fun g => iprop(∃ κ : ℕ, cellInv ER (sched m) κ g)), ← in_all (fun g => reached ER g 0), deal_around]
  iintro ⟨HI, Ha, #HR, Ht⟩
  ihave HK := (BI.bigSep_exists_pi exCells (fun (g : GSem nD τ sig) (κ : ℕ) => (cellInv ER (sched m) κ g : sProp 𝕄))) $$ HI
  icases HK with ⟨%K, #HI⟩
  iapply (each_with (R := records m K) fun c _ => armed_intro m K c)
  isplitr
  · unfold records; isplitl; · iexact HI
    iexact HR
  · rw [bigSep_sep']
    isplitl [Ht]; · iexact Ht
    iexact Ha

/-- All semaphores of every device at once. -/
theorem glob : (bigSep Finset.univ fun c => iprop(Pipeline.ownSems0 (Ix := Unit) (Name := ℕ) (U := UU) (Lvl := ℕ) (Val := Elt F) (τ := τ) osem c ∗ unscopedSems0 c ∗ mint m c) : sProp 𝕄)
    ⊢ |={Set.univ}=> bigSep Finset.univ (armed m) :=
  ((bigSep_mono fun c _ => arm_one m c).trans (bigSep_fupd _ _)).trans (BI.fupd_mono (arm_all m))

/-! ## Into the body and out of it -/

/-- What the launch hands to a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ armed m c)
      ⊢ |={Set.univ}=> iprop(start m c ∗ emp) := by
  rw [Pipeline.unscopedRestP_none, unscopedRest0_eq]
  iintro ⟨Ha, #Hl, Hc, -, HG⟩
  imodintro
  unfold start armed records
  icases HG with ⟨%K, ⟨#HI, #HR⟩, Ht, Hp⟩
  isplitl
  · isplitl [Ht Hp]
    · iexists K
      isplitr
      · unfold ctx
        isplitr; · iexact HI
        isplitr; · iexact HR
        iexact Hl
      isplitl [Ht] <;> iassumption
    isplitl [Hc]
    · iapply (launch_credits (F := F) c); iexact Hc
    unfold args; iexact Ha
  · iempintro

/-- What the call scopes are the kernel's scratch buffers. -/
theorem scr_rest (c : Dev nD) : (Pipeline.scopedRest cfg0.spec c : sProp 𝕄) = scr (F := F) c := by rw [scopedRest0_eq]; unfold scr buf; rfl

/-- From the start and the scratch buffers, what the first grid step needs. -/
theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_rest]
  unfold Φ₀
  iintro ⟨Hs, -, Hr⟩
  isplitl [Hs] <;> iassumption

/-- After the last grid step, the arguments, the closed semaphores and the scratch buffers are given back. -/
theorem phi_out (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scr_rest, bar_zero, ← own_zero]
  unfold Φ₁
  iintro ⟨Hs, Ha, Hb, Hk, Hz⟩
  isplitl [Hb Ha]
  · isplitl [Hb] <;> iassumption
  isplitl [Hk Hz]
  · isplitl [Hk] <;> iassumption
  iexact Hs

/-- The staging's waits are at a level that is allowed. -/
theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma (((cfgs 0).win w).sem s)) () = 0 := by fin_cases w <;> fin_cases s <;> rfl
    obtain ⟨_ | _, ht⟩ := t
    · exact mayWait c _ hl (above_O₀ c)
    · exact mayWait c _ hl (Above.zero 0)

/-! ## The run -/

/-- What window `w`'s array holds on device `c` once the kernel is done. -/
def finalA (c : Dev nD) (w : Fin cfg0.W) : Buf (Elt F) ((cfg0.win w).arr.view.loc (c : Thread nD τ)) := (dats m ρ 0 c).arrAt w cfg0.N

/-- Keys and values as they were and the unscoped semaphores of device `c` at zero. -/
def kept (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

/-- At the end the memory holds the arguments as they were. -/
theorem kept_read (c : Dev nD) (s' : Phys nD τ sig (Elt F)) :
    iprop((unscopedSems0 c ∗ args m c) ∗ emp ∗ SI s') ⊢ (|={Set.univ}=> iprop(⌜kept m c s'.mem⌝ ∗ SI s') : sProp 𝕄) := by
  have hs : iprop(unscopedSems0 c ∗ SI s') ⊢ (|={Set.univ}=> iprop(⌜∀ sm : SemLoc sig, sm.isScoped .tc = false → s'.mem.sem ((c.tc : Thread nD τ), sm) = 0⌝ ∗ SI s') : sProp 𝕄) :=
    Pipeline.unscopedSems0_read (X := unscopedSems0 c) (c := c) fupd_intro s'
  unfold args
  iintro ⟨⟨Hu, H2, H3⟩, -, HSI⟩
  icombine HSI H2 gives %h2
  icombine HSI H3 gives %h3
  imod hs $$ [Hu HSI] with ⟨%hz, HSI⟩
  · isplitl [Hu] <;> iassumption
  imodintro
  isplitr
  · ipureintro; exact ⟨⟨Buf.eq_of_forall_mem_univ h2, Buf.eq_of_forall_mem_univ h3⟩, hz⟩
  iexact HSI

set_option maxRecDepth 100000 in
/-- On sixteen devices, for any float values and from any memory with zero counters: every weakly fair execution ends, and at the end every window's array
    holds `finalA`, the keys and the values are as given, and every semaphore is at zero. -/
theorem run_main : θ_run defs (onTc (τ := τ) (main (F := F))) (s₀ m ρ)
    (fun r => (∀ c : Dev nD, (∀ w : Fin cfg0.W, r.2.mem ((cfg0.win w).arr.view.loc (c : Thread nD τ)) = finalA m ρ c w) ∧ kept m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := mint m) (G' := armed m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi_in m ρ) (hout := phi_out m ρ)
    (QY := kept m) (hY := kept_read m)
    (hQ := fun _ h hs => ⟨fun c => ⟨(h c).1, (h c).2.2⟩, sem_eq_zero hs fun c => (h c).2.2.2⟩)

/-- An array the kernel only reads ends as given. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.AllPairs

end
-- ==== Proof.Frames.lean ====
/-
  The frames: the kernel's at both instances, from one run, and the reference's.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.AllPairs

open Idealize.ShloMosaic Idealize.ShloMosaic.TcCoe Idealize.SL.Sem
open Cert.KernelIdeal Cert.KernelIdeal.Gen

variable {F : FTy → Type} [FloatOps F]

/-- The kernel's run, its five arguments unchanged and every semaphore at zero at the end. -/
theorem frame_any (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0 :=
  (θ_run defs _ _).mono (fun _ h => ⟨fun c =>
    ⟨((h.1 c).1 (0 : Fin 4)).trans (finalA_in m ρ c (0 : Fin 4) rfl), ((h.1 c).1 (1 : Fin 4)).trans (finalA_in m ρ c (1 : Fin 4) rfl), (h.1 c).2.1.1, (h.1 c).2.1.2,
      ((h.1 c).1 (2 : Fin 4)).trans (finalA_in m ρ c (2 : Fin 4) rfl)⟩, h.2⟩) (run_main m ρ)

/-- The kernel over the extended reals terminates, keeps its arguments and leaves the semaphores at zero. -/
theorem frame_kernelIdeal : Cert.quiescent_KernelIdeal := fun m ρ _ => frame_any (F := Ideal) m ρ

/-- Both programs have the same text, so the same bodies. -/
theorem same_bodies : Cert.Kernel.defs₀ (F := F) = defs₀ (F := F) := by
  unfold Cert.Kernel.defs₀ defs₀
  refine congrArg (Defs.onTc (nD := nD) (τ := τ) (sig := sig) (Λ := Λ₀)) ?_
  funext l x
  match l, x with
  | 0, (t, s) => rfl
  | ⟨_ + 1, h⟩, _ => exact absurd h (Nat.not_lt.2 (Nat.le_add_left _ _))
/-- The two printed kernels have the same definitions. -/
theorem same_defs : Cert.Kernel.defs (F := F) = defs (F := F) := congrArg (Pipeline.defs (pcfgs (F := F))) same_bodies
/-- The two printed kernels have the same entry. -/
theorem same_main : Cert.Kernel.main (F := F) = main (F := F) := rfl

/-- The kernel over float words terminates, keeps its arguments and leaves the semaphores at zero. -/
theorem frame_kernel : Cert.quiescent_Kernel := fun m ρ _ => by
  rw [same_defs, same_main]
  exact frame_any (F := Bits) m ρ

/-- The reference over the extended reals terminates, keeps its arguments and leaves the semaphores at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.AllPairs

end
-- ==== Proof.Attend.lean ====
/-
  The value both programs compute, over the extended reals: attention of one query row with one head, and its
  projection. The sums are over whole axes, with no trace of how either program cuts them.
-/
module

public import proofs.«01_k».proof.Proof.Cells
public import Idealize.ShloMosaic.Lib.Pointwise

@[expose] public section

noncomputable section

namespace Cert.AllPairs

open Idealize.ShloMosaic

/-- The scaled product of a query row with key row `j`. -/
def scoreOf (q : Fin 128 → EReal) (k : Fin 2048 → Fin 128 → EReal) (j : Fin 2048) : EReal :=
  (∑ d, q d * k j d) * Ideal.ofBits FTy.f32 0x3DB504F3#32
/-- Its weight before normalising: the exponential of the score less the row's greatest score. -/
def weightOf (q : Fin 128 → EReal) (k : Fin 2048 → Fin 128 → EReal) (j : Fin 2048) : EReal :=
  Ideal.exp (scoreOf q k j - Finset.fold max (Ideal.ofBits FTy.f32 0xFF800000#32) (scoreOf q k) Finset.univ)
/-- Attention of the query row with one head: the weighted sum of the value rows over the sum of the weights. -/
def attendOf (q : Fin 128 → EReal) (k v : Fin 2048 → Fin 128 → EReal) (d : Fin 128) : EReal :=
  Ideal.div (∑ j, weightOf q k j * v j d) (∑ j, weightOf q k j)

section
variable (x : FVec Ideal ⟨3, ![1, 512, 1024]⟩ .f32) (wq : FVec Ideal ⟨2, ![1024, 16384]⟩ .f32)
  (ks vs : FVec Ideal ⟨4, ![1, 2048, 32, 128]⟩ .f32) (wo : FVec Ideal ⟨2, ![16384, 1024]⟩ .f32)

/-- Column `n` of query row `i`. -/
def queryOf (i : Fin 512) (n : Fin 16384) : EReal := ∑ a, x (ix3 0 i a) * wq (ix2 a n)
/-- Column `n` of row `i` of all heads' attention side by side: column `n % 128` of query head `n / 128`, which
    attends with key and value head `n / 128 / 4`. -/
def headsOf (i : Fin 512) (n : Fin 16384) : EReal :=
  attendOf (fun d => queryOf x wq i ⟨n.val / 128 * 128 + d.val, by omega⟩)
    (fun j d => ks (ix4 0 j ⟨n.val / 128 / 4, by omega⟩ d)) (fun j d => vs (ix4 0 j ⟨n.val / 128 / 4, by omega⟩ d))
    ⟨n.val % 128, by omega⟩
/-- Element `(i, l)` of the result: the projection of row `i` of the attention. -/
def resultOf (i : Fin 512) (l : Fin 1024) : EReal := ∑ n, headsOf x wq ks vs i n * wo (ix2 n l)
end

end Cert.AllPairs

end
-- ==== Proof.Local.lean ====
/-
  What one device computes: its partial product, element by element, of its blocks of the arguments.
-/
module

public import proofs.«01_k».proof.Proof.Attend
public import Idealize.ShloMosaic.Lib.Pipeline.Value
public import Idealize.ShloMosaic.Lib.Layout

@[expose] public section

noncomputable section

namespace Cert.AllPairs

open Idealize.ShloMosaic Idealize.ShloMosaic.TcCoe
open Cert.KernelIdeal Cert.KernelIdeal.Gen

/-- Each of the eight heads' columns lies inside the query block. -/
theorem headSlices (n : Fin 8) : S512x1024.Slices ![0, 128 * n.val] S512x128 := by revert n; decide

/-- Query head `n` of the device's eight, against one head of keys and values, by the operations of the kernel. -/
def headV (n : Fin 8) (q : FVec Ideal S512x1024 .f32) (k v : Vec Ideal S2048x128 .f32) : FVec Ideal S512x128 .f32 :=
  let s := mulf (matmul dot_S512x128_S2048x128_S512x2048_1_1_0_0_n_n none
    (extractStridedSlice S512x128 ![0, 128 * n.val] q (headSlices n))
    (shapeCast S2048x128 (kvL k) shapeCasts_S1x2048x128_S2048x128 : FVec Ideal S2048x128 .f32) (constant S512x2048 .f32 0x00000000#32))
    (broadcast S512x2048 (Scalar.ofBits .f32 0x3DB504F3#32))
  let top := multiReduction .maximumf [1] S512 s 0xFF800000#32 reduces_S512x2048_S512 (.inl rfl) rfl
  let p := exp (subf s (broadcastTo S512x2048 (shapeCast S512x1 top shapeCasts_S512_S512x1) broadcasts_S512x1_S512x2048))
  let l := multiReduction .add [1] S512 p 0x00000000#32 reduces_S512x2048_S512 (.inl rfl) rfl
  divf (matmul dot_S512x2048_S2048x128_S512x128_1_0_0_1_n_n none p
      (shapeCast S2048x128 (kvL v) shapeCasts_S1x2048x128_S2048x128 : FVec Ideal S2048x128 .f32) (constant S512x128 .f32 0x00000000#32))
    (broadcastTo S512x128 (shapeCast S512x1 l shapeCasts_S512_S512x1) broadcasts_S512x1_S512x128)

/-- Its elements are attention of the query row's columns of that head. -/
theorem headV_apply (n : Fin 8) (q : FVec Ideal S512x1024 .f32) (k v : Vec Ideal S2048x128 .f32) (i : Fin 512) (d : Fin 128) :
    headV n q k v (ix2 i d) = attendOf (fun e => q (ix2 i ⟨128 * n.val + e.val, by omega⟩)) (fun j e => k (ix2 j e))
      (fun j e => v (ix2 j e)) d := by
  pointwise [headV, kvL, attendOf, weightOf, scoreOf]

variable (m : (ℓ : Loc nD τ sig) → Buf (Elt Ideal) ℓ)

/-- Query head `n` attends with the first of the device's two key and value heads, or with the second. -/
def kvOf (n : Fin 8) : Fin 2 := ⟨n.val / 4, by omega⟩
def headC (c : Dev nD) (n : Fin 8) : FVec Ideal S512x128 .f32 := headV n (qC m c) (kX m c (kvOf n)) (vX m c (kvOf n))

/-- The eight heads side by side. -/
def headsC (c : Dev nD) : FVec Ideal S512x1024 .f32 :=
  concatenate S512x1024 1 (List.ofFn fun n : Fin 8 => (⟨S512x128, headC m c n⟩ : (s : Shape) × FVec Ideal s .f32))
    concatenates_S512x128_S512x128_S512x128_S512x128_S512x128_S512x128_S512x128_S512x128_S512x1024_d1

/-- The eight heads side by side: column `n` is column `n % 128` of head `n / 128`. -/
theorem headsC_apply (c : Dev nD) (i : Fin 512) (n : Fin 1024) :
    headsC m c (ix2 i n) = headC m c ⟨n.val / 128, by omega⟩ (ix2 i ⟨n.val % 128, by omega⟩) :=
  concatenate_ofFn_apply (t := S512x1024) (s₁ := S512x128) 1 (headC m c) _ rfl 128 rfl (ix2 i n) _ rfl _ rfl (fun b hb => by
    match b with
    | 0 => rfl
    | 1 => exact absurd rfl hb)

/-- The partial product is those times the device's rows of the projection. -/
theorem part_eq (c : Dev nD) : part m c = matmul dot_S512x1024_S1024x1024_S512x1024_1_0_0_1_n_n none (headsC m c)
    (shapeCast S1024x1024 (woC m c) shapeCasts_S1024x1024_S1024x1024 : FVec Ideal S1024x1024 .f32)
    (constant S512x1024 .f32 0x00000000#32) := by
  unfold part
  rfl

/-- Its windows of the first, second and fifth argument are those arguments whole. -/
theorem xC_eq (c : Dev nD) : xC m c = m ((c : Thread nD τ).loc main_arg0) := funext fun i =>
  congrArg (m ((c : Thread nD τ).loc main_arg0)) (funext fun a => Fin.ext (win0_0.rect_emb_val_of_index_zero (0 : Fin 1) a rfl i))
/-- The staged block of `Wq` is the device's argument. -/
theorem wqC_eq (c : Dev nD) : wqC m c = m ((c : Thread nD τ).loc main_arg1) := funext fun i =>
  congrArg (m ((c : Thread nD τ).loc main_arg1)) (funext fun a => Fin.ext (win0_1.rect_emb_val_of_index_zero (0 : Fin 1) a rfl i))
/-- The staged block of `Wo` is the device's argument. -/
theorem woC_eq (c : Dev nD) : woC m c = m ((c : Thread nD τ).loc main_arg4) := funext fun i =>
  congrArg (m ((c : Thread nD τ).loc main_arg4)) (funext fun a => Fin.ext (win0_2.rect_emb_val_of_index_zero (0 : Fin 1) a rfl i))

/-- Where element `(x, d)` of a device's head `j` is in the array of all heads. -/
theorem head_emb (M : Memref sig .tc .hbm S1x2048x32x128 .f32) (c : Dev nD) (j : Fin 2) (x : Fin 2048) (d : Fin 128)
    (h : 2 * c.val + j.val < 32) : (head M c j).view.emb (ix2 x d) = M.view.emb (ix4 0 x ⟨2 * c.val + j.val, h⟩ d) := by
  refine congrArg M.view.emb (?_ : (headR c j).emb (Shape.reshapeEquiv squeezes_S1x2048x1x128_S2048x128.numel_eq (ix2 x d)) = _)
  have e : Shape.reshapeEquiv squeezes_S1x2048x1x128_S2048x128.numel_eq (ix2 x d) = ix4 0 x 0 d := by
    pointwise
  rw [e]
  funext a
  refine Fin.ext ((Rect.emb_apply _ _ _).trans ?_)
  match a with
  | 0 => rfl
  | 1 => simp
  | 2 => simp
  | 3 => simp

/-- The device's two key heads are among the 32. -/
theorem twoHeads (c : Dev nD) (j : Fin 2) : 2 * c.val + j.val < 32 := by
  have : c.val < 16 := c.isLt
  omega

/-- The key head that is copied in, at one entry of the argument. -/
theorem kX_apply (c : Dev nD) (j : Fin 2) (x : Fin 2048) (d : Fin 128) :
    kX m c j (ix2 x d) = m ((c : Thread nD τ).loc main_arg2) (ix4 0 x ⟨2 * c.val + j.val, twoHeads c j⟩ d) :=
  congrArg (m ((c : Thread nD τ).loc main_arg2)) (head_emb kA c j x d (twoHeads c j))
/-- The value head that is copied in, at one entry of the argument. -/
theorem vX_apply (c : Dev nD) (j : Fin 2) (x : Fin 2048) (d : Fin 128) :
    vX m c j (ix2 x d) = m ((c : Thread nD τ).loc main_arg3) (ix4 0 x ⟨2 * c.val + j.val, twoHeads c j⟩ d) :=
  congrArg (m ((c : Thread nD τ).loc main_arg3)) (head_emb vA c j x d (twoHeads c j))

/-- Element `(i, l)` of the partial product: the sum over the device's 1024 columns. -/
theorem part_apply (c : Dev nD) (i : Fin 512) (l : Fin 1024) :
    part m c (ix2 i l) = ∑ n : Fin 1024, headC m c ⟨n.val / 128, by omega⟩ (ix2 i ⟨n.val % 128, by omega⟩) * woC m c (ix2 n l) := by
  rw [part_eq]
  pointwise
  exact Finset.sum_congr rfl fun n _ => congrArg (· * woC m c (ix2 n l)) (headsC_apply m c i n)

/-- The queries of a device, by the arguments it holds. -/
theorem qC_apply (c : Dev nD) (i : Fin 512) (n : Fin 1024) : qC m c (ix2 i n) =
    ∑ a, Mul.mul (α := EReal) (m ((c : Thread nD τ).loc main_arg0) (ix3 0 i a)) (m ((c : Thread nD τ).loc main_arg1) (ix2 a n)) := by
  unfold qC
  rw [xC_eq, wqC_eq]
  pointwise [k0_pay1]
  rfl

/-! ## Against the whole arrays -/

section
variable (x : FVec Ideal ⟨3, ![1, 512, 1024]⟩ .f32) (wq : FVec Ideal ⟨2, ![1024, 16384]⟩ .f32)
  (ks vs : FVec Ideal ⟨4, ![1, 2048, 32, 128]⟩ .f32) (wo : FVec Ideal ⟨2, ![16384, 1024]⟩ .f32)

/-- Device `c` holds its blocks of the whole arrays: its 1024 columns of `wq`, its 1024 rows of `wo`, the others whole. -/
def Holds (c : Dev nD) : Prop :=
  m ((c : Thread nD τ).loc main_arg0) = x
  ∧ m ((c : Thread nD τ).loc main_arg1) = Layout.block ⟨2, ![1024, 1024]⟩ ⟨2, ![1024, 16384]⟩ 1 16 c wq
  ∧ m ((c : Thread nD τ).loc main_arg2) = ks
  ∧ m ((c : Thread nD τ).loc main_arg3) = vs
  ∧ m ((c : Thread nD τ).loc main_arg4) = Layout.block ⟨2, ![1024, 1024]⟩ ⟨2, ![16384, 1024]⟩ 0 16 c wo

/-- Column, or row, `n` of device `c`'s block in the whole array. -/
def colOf (c : Fin 16) (n : Fin 1024) : Fin 16384 := ⟨c.val * 1024 + n.val, by omega⟩

variable {m x wq ks vs wo} {c : Dev nD} (h : Holds m x wq ks vs wo c)
include h

/-- The device's queries are its columns of the whole query product. -/
theorem qC_whole (i : Fin 512) (n : Fin 1024) : qC m c (ix2 i n) = queryOf x wq i (colOf c n) := by
  rw [qC_apply, h.1, h.2.1]
  refine Finset.sum_congr rfl fun a _ => congrArg (fun t => x (ix3 0 i a) * wq t) (funext fun b => Fin.ext ?_)
  match b with
  | 0 => rfl
  | 1 => rfl

/-- The device's block of `Wo` is its rows of the whole array. -/
theorem woC_whole (n : Fin 1024) (l : Fin 1024) : woC m c (ix2 n l) = wo (ix2 (colOf c n) l) := by
  rw [woC_eq, h.2.2.2.2]
  refine congrArg wo (funext fun b => Fin.ext ?_)
  match b with
  | 0 => rfl
  | 1 => rfl

/-- The attention the device computes is its columns of all heads' attention. -/
theorem headC_whole (i : Fin 512) (n : Fin 1024) :
    headC m c ⟨n.val / 128, by omega⟩ (ix2 i ⟨n.val % 128, by omega⟩) = headsOf x wq ks vs i (colOf c n) := by
  have hc : c.val < 16 := c.isLt
  unfold headC
  rw [headV_apply]
  unfold headsOf
  simp only [qC_whole h, kX_apply, vX_apply, h.2.2.1, h.2.2.2.1]
  congr 1
  · funext e
    refine congrArg (queryOf x wq i) (Fin.ext ?_)
    simp only [colOf]
    omega
  · funext j e
    refine congrArg (fun t => ks (ix4 0 j t e)) (Fin.ext ?_)
    simp only [colOf, kvOf]
    omega
  · funext j e
    refine congrArg (fun t => vs (ix4 0 j t e)) (Fin.ext ?_)
    simp only [colOf, kvOf]
    omega
  · refine Fin.ext ?_
    simp only [colOf]
    omega

/-- The device's partial product is the sum over its columns of the whole one. -/
theorem part_whole (i : Fin 512) (l : Fin 1024) :
    part m c (ix2 i l) = ∑ n : Fin 1024, headsOf x wq ks vs i (colOf c n) * wo (ix2 (colOf c n) l) := by
  rw [part_apply]
  exact Finset.sum_congr rfl fun n _ => by rw [headC_whole h, woC_whole h]

omit h

/-- A sum over all columns, device by device. -/
theorem sum_cols (f : Fin 16384 → EReal) : ∑ c : Fin 16, ∑ n : Fin 1024, f (colOf c n) = ∑ n, f n := by
  rw [← Fintype.sum_prod_type']
  refine Fintype.sum_equiv (finProdFinEquiv (m := 16) (n := 1024)) _ _ fun p => congrArg f (Fin.ext ?_)
  simp only [colOf, finProdFinEquiv_apply_val]
  omega

/-- The partial products of all devices add up to the result. -/
theorem sum_part (h : ∀ c, Holds m x wq ks vs wo c) (i : Fin 512) (l : Fin 1024) :
    ∑ c : Dev nD, part m c (ix2 i l) = resultOf x wq ks vs wo i l :=
  (Finset.sum_congr rfl fun c _ => part_whole (h c) i l).trans (sum_cols fun n => headsOf x wq ks vs i n * wo (ix2 n l))
end

end Cert.AllPairs

end
-- ==== Proof.Gather.lean ====
/-
  What the exchanges leave: every device's result is the sum of all the partial products.
-/
module

public import proofs.«01_k».proof.Proof.Local
public import proofs.«01_k».proof.Proof.Deal

@[expose] public section

noncomputable section

namespace Cert.AllPairs

open Idealize.ShloMosaic Idealize.ShloMosaic.TcCoe
open Cert.KernelIdeal Cert.KernelIdeal.Gen

variable (m : (ℓ : Loc nD τ sig) → Buf (Elt Ideal) ℓ)

/-- Row `r` of device `j`'s 32 rows. -/
def rowOf (j : Dev nD) (r : Fin 32) : Fin 512 := ⟨32 * j.val + r.val, by have : j.val < 16 := j.isLt; omega⟩

/-- Row `r` of chunk `j` is row `rowOf j r` of the output. -/
theorem chunkR_emb (j : Dev nD) (r : Fin 32) (l : Fin 1024) : (chunkR j).emb (ix2 r l) = ix2 (rowOf j r) l := by
  funext a
  refine Fin.ext ((Rect.emb_apply _ _ _).trans ?_)
  match a with
  | 0 => simp [rowOf]
  | 1 => simp

/-- A chunk of the send buffer, read at one entry. -/
theorem chunk_read (c : Dev nD) (f : (cc0_scratch3 : Ref sig .tc).ty.Contents (Elt Ideal)) (r : Fin 32) (l : Fin 1024) :
    (chunk c).view.read (Elt Ideal) f (ix2 r l) = f (ix2 (rowOf c r) l) := congrArg f (chunkR_emb c r l)
/-- A chunk of the output, read at one entry. -/
theorem out_readAt (c : Dev nD) (f : (cc0_stg3_0 : Ref sig .tc).ty.Contents (Elt Ideal)) (r : Fin 32) (l : Fin 1024) :
    outM.view.readAt (Elt Ideal) (chunkR c).toLoadRect f (ix2 r l) = f (ix2 (rowOf c r) l) := congrArg f (chunkR_emb c r l)

/-- Narrowing changes nothing over the extended reals; nor does widening. -/
theorem narrowed_apply (f : FVec Ideal S512x1024 .f32) (i : Fin 512) (l : Fin 1024) : @Eq EReal (k0_pay15 (F := Ideal) (k0_pay14 f) (ix2 i l)) (f (ix2 i l)) := by
  pointwise [k0_pay15, k0_pay14]
/-- A loaded row of a receive buffer, at one entry. -/
theorem rowL_apply (X : Vec Ideal S32x1024 .bf16) (r : Fin 32) (l : Fin 1024) : rowL X (ix3 0 r l) = X (ix2 r l) := by
  pointwise [rowL]
/-- A received chunk widened to f32 has the same entries. -/
theorem widened_apply (X : Vec Ideal S32x1024 .bf16) (r : Fin 32) (l : Fin 1024) : @Eq EReal (k0_pay26 (F := Ideal) (rowL X) (ix2 r l)) (X (ix2 r l)) := by
  pointwise [k0_pay26, rowL]
/-- The device's own chunk, as it is loaded, has the same entries. -/
theorem kept_apply (f : FVec Ideal S32x1024 .f32) (r : Fin 32) (l : Fin 1024) : k0_pay16 f (ix2 r l) = f (ix2 r l) := by
  pointwise [k0_pay16]

/-- The send buffer holds the partial product, so what arrives is the sender's rows of its partial product. -/
theorem rsL_apply (c : Dev nD) (k : Fin 15) (r : Fin 32) (l : Fin 1024) :
    @Eq EReal (rsL m c k (ix3 0 r l)) (part m (dn c k) (ix2 (rowOf c r) l)) :=
  (rowL_apply _ r l).trans ((chunk_read c _ r l).trans (narrowed_apply _ _ l))

/-- A device's own chunk of its partial product, at one entry. -/
theorem own_apply (c : Dev nD) (r : Fin 32) (l : Fin 1024) : own m c (ix2 r l) = part m c (ix2 (rowOf c r) l) :=
  (kept_apply _ r l).trans (out_readAt c _ r l)

/-- A device's sum is its own part and those of the fifteen before it. -/
theorem sum_devices (f : Dev nD → EReal) (c : Dev nD) : ∑ j, f j = f c + ∑ k : Fin 15, f (dn c k) := by
  rw [← Finset.add_sum_erase Finset.univ f (Finset.mem_univ c), ← map_dn c, Finset.sum_map]
  rfl

/-- A device's finished rows are the sum of the partial products' rows. -/
theorem finished_apply (c : Dev nD) (r : Fin 32) (l : Fin 1024) : fin m c (ix2 r l) = ∑ j : Dev nD, part m j (ix2 (rowOf c r) l) := by
  rw [sum_devices _ c]
  pointwise [fin, acc14, acc12, acc10, acc8, acc5, acc3, k0_pay24, k0_pay23, k0_pay22, k0_pay21, k0_pay20, k0_pay19, k0_pay18, k0_pay17]
  simp only [rsL_apply, own_apply]
  generalize part m = f
  simp only [Fin.sum_univ_castSucc, Finset.univ_eq_empty, Finset.sum_empty, zero_add, add_assoc]
  rfl

/-- The chunk that is sent round is the finished chunk, entry by entry. -/
theorem sent_apply (c : Dev nD) (r : Fin 32) (l : Fin 1024) : @Eq EReal (agC m c (ix2 r l)) (fin m c (ix2 r l)) := by
  unfold agC fin
  generalize acc14 m c = a
  generalize rsL m c 13 = x
  generalize rsL m c 14 = y
  pointwise [k0_pay25]

/-! ## The result buffer -/

/-- Where rows are put, they are read back. -/
theorem putRows_same (j : Dev nD) (f : (cc0_stg3_0 : Ref sig .tc).ty.Contents (Elt Ideal)) (w : FVec Ideal S32x1024 .f32)
    (r : Fin 32) (l : Fin 1024) : putRows j f w (ix2 (rowOf j r) l) = w (ix2 r l) := by
  unfold putRows
  rw [← chunkR_emb j r l]
  exact View.write_emb_of_mem (v := outM.access (chunkR j)) f w (Finset.mem_univ (ix2 r l))

/-- Rows of another device are left as they were. -/
theorem putRows_other (j i : Dev nD) (h : i ≠ j) (f : (cc0_stg3_0 : Ref sig .tc).ty.Contents (Elt Ideal)) (w : FVec Ideal S32x1024 .f32)
    (r : Fin 32) (l : Fin 1024) : putRows j f w (ix2 (rowOf i r) l) = f (ix2 (rowOf i r) l) := by
  refine View.write_of_not_mem (v := outM.access (chunkR j)) f w Finset.univ fun hm => h ?_
  obtain ⟨x, -, hx⟩ := Finset.mem_map.mp hm
  obtain ⟨a, b, rfl⟩ : ∃ (a : Fin 32) (b : Fin 1024), x = ix2 a b := ⟨x 0, x 1, eq_ix2 x⟩
  have e : rowOf j a = rowOf i r := congrFun ((chunkR_emb j a b).symm.trans hx) 0
  have := congrArg Fin.val e
  simp only [rowOf] at this
  exact Fin.ext (by omega)

/-- Once `n` arrivals are in, the rows of the device itself and of the first `n` senders are the finished ones. -/
theorem outC_rows (c : Dev nD) (r : Fin 32) (l : Fin 1024) : ∀ n, n ≤ 15 → ∀ j, (j = c ∨ ∃ k : Fin 15, k.val < n ∧ dn c k = j) →
    outC m c n (ix2 (rowOf j r) l) = fin m j (ix2 r l)
  | 0, _, j, h => by
    obtain rfl : j = c := h.elim id fun ⟨k, hk, _⟩ => absurd hk (Nat.not_lt_zero _)
    exact putRows_same j _ _ r l
  | n + 1, hn, j, h => by
    rw [show outC m c (n + 1) = _ from outC_succ m c ⟨n, hn⟩]
    by_cases hj : j = dn c ⟨n, hn⟩
    · subst hj
      rw [putRows_same, widened_apply, sent_apply]
    · rw [putRows_other _ _ hj]
      refine outC_rows c r l n (Nat.le_of_succ_le hn) j (h.imp_right fun ⟨k, hk, e⟩ => ⟨k, ?_, e⟩)
      exact Nat.lt_of_le_of_ne (Nat.le_of_lt_succ hk) fun e' => hj (e.symm.trans (congrArg (dn c) (Fin.ext e')))

/-- At the end every device's result buffer holds the sum of all the partial products. -/
theorem outC_apply (c : Dev nD) (i : Fin 512) (l : Fin 1024) : outC m c 15 (ix2 i l) = ∑ j : Dev nD, part m j (ix2 i l) := by
  obtain ⟨j, r, rfl⟩ : ∃ (j : Dev nD) (r : Fin 32), i = rowOf j r :=
    ⟨⟨i.val / 32, by show _ < 16; omega⟩, ⟨i.val % 32, by omega⟩, Fin.ext (by simp only [rowOf]; omega)⟩
  rw [outC_rows m c r l 15 le_rfl j, finished_apply]
  by_cases h : j = c
  · exact .inl h
  · obtain ⟨k, -, hk⟩ := Finset.mem_map.mp ((map_dn c).symm ▸ Finset.mem_erase.mpr ⟨h, Finset.mem_univ j⟩)
    exact .inr ⟨k, k.isLt, hk⟩

end Cert.AllPairs

end
-- ==== Proof.Plain.lean ====
/-
  What the reference computes, element by element.
-/
module

public import proofs.«01_k».proof.Proof.Attend
public import proofs.«01_k».proof.Proof.Gen.ReferenceIdeal.Run

@[expose] public section

noncomputable section

namespace Cert.AllPairs

open Idealize.ShloMosaic Idealize.ShloMosaic.TcCoe Idealize.SL.Sem
open Cert.ReferenceIdeal Cert.ReferenceIdeal.Gen

/-- The result as an array. -/
def resultA (x : FVec Ideal S1x512x1024 .f32) (wq : FVec Ideal S1024x16384 .f32) (ks vs : FVec Ideal S1x2048x32x128 .f32)
    (wo : FVec Ideal S16384x1024 .f32) : FVec Ideal S512x1024 .f32 := fun i => resultOf x wq ks vs wo (i 0) (i 1)

/-- The reference's run leaves that array as its result and its arguments as they were. -/
theorem run_plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = resultA (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  generalize m ((c.tc : Thread nD τ).loc main_arg0) = x
  generalize m ((c.tc : Thread nD τ).loc main_arg1) = wq
  generalize m ((c.tc : Thread nD τ).loc main_arg2) = ks
  generalize m ((c.tc : Thread nD τ).loc main_arg3) = vs
  generalize m ((c.tc : Thread nD τ).loc main_arg4) = wo
  funext i
  obtain ⟨a, b, rfl⟩ : ∃ (a : Fin 512) (b : Fin 1024), i = ix2 a b := ⟨i 0, i 1, eq_ix2 i⟩
  pointwise [resultA, resultOf, headsOf, attendOf, weightOf, scoreOf, queryOf]
  refine Finset.sum_congr rfl fun n _ => ?_
  congr 2
  exact Finset.sum_congr rfl fun j _ => mul_comm _ _

end Cert.AllPairs

end
-- ==== Proof.Value.lean ====
/-
  The value: every device ends with the reference's result.
-/
module

public import proofs.«01_k».proof.Proof.Frames
public import proofs.«01_k».proof.Proof.Gather
public import proofs.«01_k».proof.Proof.Plain
public import Idealize.ShloMosaic.Lib.Pipeline.ValueKit.Geometry

@[expose] public section

noncomputable section

namespace Cert.AllPairs

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The output's one block is the whole array. -/
theorem wholeOut : (win0_3 : Pipeline.Window sig grid0).WholeAt (0 : Fin 1) :=
  ⟨by decide +kernel, fun t _ => Subsingleton.elim (α := Fin 1) t 0, by decide +kernel⟩

/-- A device's result is its result buffer as the exchanges leave it: it is written back whole, once. -/
theorem finalA_out (c : Dev nD) : finalA m ρ c (3 : Fin 4) = outC m c 15 :=
  (dats m ρ 0 c).arrAt_eq_of_after_last (3 : Fin 4) (0 : Fin 1) wholeOut (outC m c 15) (fun j =>
    congrFun (after_3 m ρ c (0 : Fin 1)) _)

/-- The kernel and the reference, of the same arrays, each device holding its blocks, end with the same result on every
    device, and leave their arguments as they were. -/
theorem value_result : Cert.algebraic_KernelIdeal_ReferenceIdeal := by
  intro m g m' g' _ hm
  refine ⟨_, (θ_run defs _ _).mono (fun r h c => ?_) (run_main (F := Ideal) m g),
    (θ_run Cert.ReferenceIdeal.defs _ _).mono (fun r h => h 0) (run_plain m' g')⟩
  refine ⟨((h.1 c).1 (3 : Fin 4)).trans ((finalA_out m g c).trans ?_), ((h.1 c).1 (0 : Fin 4)).trans (finalA_in m g c (0 : Fin 4) rfl),
    ((h.1 c).1 (1 : Fin 4)).trans (finalA_in m g c (1 : Fin 4) rfl), (h.1 c).2.1.1, (h.1 c).2.1.2,
    ((h.1 c).1 (2 : Fin 4)).trans (finalA_in m g c (2 : Fin 4) rfl)⟩
  funext i
  obtain ⟨a, b, rfl⟩ : ∃ (a : Fin 512) (b : Fin 1024), i = ix2 a b := ⟨i 0, i 1, eq_ix2 i⟩
  exact (outC_apply m c a b).trans (sum_part hm a b)

end Cert.AllPairs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AllPairs.frame_kernel, Cert.AllPairs.frame_kernelIdeal, Cert.AllPairs.frame_reference, trivial, Cert.AllPairs.value_result⟩

end Cert.Proof

end
